-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S1x1 : Shape := ⟨2, ![1, 1]⟩
abbrev S256x4096 : Shape := ⟨2, ![256, 4096]⟩
abbrev S16x1024 : Shape := ⟨2, ![16, 1024]⟩
abbrev S16x2048 : Shape := ⟨2, ![16, 2048]⟩
abbrev S16x4096 : Shape := ⟨2, ![16, 4096]⟩
abbrev S1x16x1024 : Shape := ⟨3, ![1, 16, 1024]⟩
abbrev S1 : Shape := ⟨1, ![1]⟩
abbrev S1x1x1 : Shape := ⟨3, ![1, 1, 1]⟩
abbrev S1x16x2048 : Shape := ⟨3, ![1, 16, 2048]⟩
abbrev S_ : Shape := ⟨0, ![]⟩

abbrev nBuf : Space → Nat
  | .hbm => 3
  | .vmem => 7
  | .smem => 1
  | _ => 0

abbrev bufTy : (tb : Table) → Fin (tcTables nBuf tb) → BufTy
  | .hbm, ⟨0, _⟩ => ⟨S4096x4096, .f32⟩
  | .hbm, ⟨1, _⟩ => ⟨S1x1, .f32⟩
  | .hbm, ⟨2, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S16x1024, .f32⟩
  | .local _ .vmem, ⟨4, _⟩ => ⟨S16x1024, .f32⟩
  | .local _ .vmem, ⟨5, _⟩ => ⟨S16x2048, .f32⟩
  | .local _ .vmem, ⟨6, _⟩ => ⟨S16x2048, .f32⟩
  | .local _ .smem, ⟨0, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c16_i32_7 : BitVec 32 := 16#32
  let v14 : BitVec 32 := Scalar.muli arg8 c16_i32_7
  let v15 : Index := Scalar.indexCast v14
  let c0 : Index := 0#32
  ![v15.toNat, 0]
def k0_off2 (i : grid0.Coords) (k0_t1 : Fin k0_t1_loop.trips) : Fin 2 → Nat :=
  let arg0 : BitVec 32 := BitVec.ofNat 32 (i 0).val
  let c256_i32 : BitVec 32 := 256#32
  let v19 : BitVec 32 := Scalar.muli arg0 c256_i32
  let c0_i32 : BitVec 32 := 0#32
  let c1_i32 : BitVec 32 := 1#32
  let arg8 : BitVec 32 := Scf.iv c0_i32 c1_i32 k0_t1
  let c16_i32_8 : BitVec 32 := 16#32
  let v20 : BitVec 32 := Scalar.muli arg8 c16_i32_8
  let v21 : BitVec 32 := Scalar.addi v19 v20
  let v22 : Index := Scalar.indexCast v21
  let c0_9 : Index := 0#32
  ![v22.toNat, 0]
def k0_cond3 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_6 : BitVec 32 := 0#32
  let v13 : BitVec 1 := Scalar.cmpi .ne v12 c0_i32_6
  v13

@[reducible] def k0_t2_loop : Scf.Loop 32 :=
  let c0_i32_22 : BitVec 32 := 0#32
  let c16_i32_23 : BitVec 32 := 16#32
  let v35 : BitVec 32 := Scalar.addi c0_i32_22 c16_i32_23
  let c1_i32_24 : BitVec 32 := 1#32
  ⟨c0_i32_22, v35, c1_i32_24⟩
def k0_off3 (k0_t2 : Fin k0_t2_loop.trips) (c0_i32_40 : BitVec 32) : Fin 2 → Nat :=
  let c0_i32_22 : BitVec 32 := 0#32
  let c1_i32_24 : BitVec 32 := 1#32
  let arg8 : BitVec 32 := Scf.iv c0_i32_22 c1_i32_24 k0_t2
  let c16_i32_39 : BitVec 32 := 16#32
  let v56 : BitVec 32 := Scalar.muli arg8 c16_i32_39
  let v57 : BitVec 32 := Scalar.addi v56 c0_i32_40
  let c16_i32_41 : BitVec 32 := 16#32
  let v58 : BitVec 32 := Scalar.muli v57 c16_i32_41
  let v59 : Index := Scalar.indexCast v58
  let c0_42 : Index := 0#32
  ![v59.toNat, 0]
def k0_off4 (k0_t2 : Fin k0_t2_loop.trips) (c0_i32_40 : BitVec 32) : Fin 2 → Nat :=
  let c0_i32_22 : BitVec 32 := 0#32
  let c1_i32_24 : BitVec 32 := 1#32
  let arg8 : BitVec 32 := Scf.iv c0_i32_22 c1_i32_24 k0_t2
  let c16_i32_39 : BitVec 32 := 16#32
  let v56 : BitVec 32 := Scalar.muli arg8 c16_i32_39
  let v57 : BitVec 32 := Scalar.addi v56 c0_i32_40
  let c16_i32_43 : BitVec 32 := 16#32
  let v61 : BitVec 32 := Scalar.muli v57 c16_i32_43
  let v62 : Index := Scalar.indexCast v61
  let c2048 : Index := 2048#32
  ![v62.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096x4096 : Shape := ⟨2, ![4096, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S4096x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i1⟩
  | .hbm, ⟨29, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_cst_6 : Ref sig .tc := ⟨.hbm, 22, rfl⟩
abbrev main_v12 : Ref sig .tc := ⟨.hbm, 23, rfl⟩
abbrev main_v13 : Ref sig .tc := ⟨.hbm, 24, rfl⟩
abbrev main_cst_7 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Proof.KernelRun.lean ====
/- One grid point of the kernel, for its frame: whatever the buffers hold, the body runs to its end, leaves the
   input block as it was, and (away from the last point) leaves the output buffer untouched. -/
module

public import proofs.«01_k».proof.Proof.Gen.Kernel.Loops
public import proofs.«01_k».proof.Proof.Gen.Kernel.Frame

@[expose] public section

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first branch's test, "this is point 0", as the body computes it. -/
abbrev first (i : grid0.Coords) : BitVec 1 :=
  Scalar.cmpi .ne (Scalar.extui (Scalar.cmpi .eq (BitVec.ofNat 32 (i 0).val) 0#32)) 0#32
/-- The second branch's test, "this is a later point", as the body computes it. -/
abbrev later (i : grid0.Coords) : BitVec 1 :=
  Scalar.cmpi .ne (Scalar.extui (Scalar.cmpi .sgt (BitVec.ofNat 32 (i 0).val) 0#32)) 0#32

theorem first_iff : ∀ t : Fin grid0.N, (first (grid0.coords t) = 1#1) ↔ t.val = 0 := by decide +kernel
theorem later_iff : ∀ t : Fin grid0.N, (later (grid0.coords t) = 1#1) ↔ t.val ≠ 0 := by decide +kernel
theorem last_iff : ∀ t : Fin grid0.N, (k0_cond3 (grid0.coords t) = 1#1) ↔ t.val = 15 := by decide +kernel

/-- A whole memref held at some contents. -/
abbrev held (c : Dev nD) {sp : Space} {S : Shape} {e : EltTy} (M : Memref sig .tc sp S e) : sProp 𝕄 :=
  iprop(∃ f, (M.view.loc (c : Thread nD τ) ↦[M.view.set]{fullShare} f))

variable (c : Dev nD) (E : Set ℕ) (i : grid0.Coords) (arg1 : Memref sig .tc .vmem S256x4096 .f32) (harg1 : arg1.IsWhole) (arg2 : Memref sig .tc .smem S1x1 .f32) (harg2 : arg2.IsWhole)
  (arg3 : Memref sig .tc .vmem S4096x4096 .bf16) (harg3 : arg3.IsWhole) (arg4 : Memref sig .tc .vmem S16x1024 .f32) (harg4 : arg4.IsWhole)
  (arg5 : Memref sig .tc .vmem S16x1024 .f32) (harg5 : arg5.IsWhole) (arg6 : Memref sig .tc .vmem S16x2048 .f32) (harg6 : arg6.IsWhole)
  (arg7 : Memref sig .tc .vmem S16x2048 .f32) (harg7 : arg7.IsWhole)
  (x : Vec F S256x4096 .f32)

/-- The five scratch buffers, at anything. -/
abbrev scratch : sProp 𝕄 := iprop(held c arg3 ∗ held c arg4 ∗ held c arg5 ∗ held c arg6 ∗ held c arg7)

set_option maxHeartbeats 4000000 in
/-- The body at point 0: the two running accumulators are set, the output buffer untouched. -/
theorem run_first (y : Vec F S1x1 .f32) (h1 : first i = 1#1) (h2 : ¬ later i = 1#1) (h3 : ¬ k0_cond3 i = 1#1) (K : PUnit → sProp 𝕄) :
    iprop(owns (c : Thread nD τ) arg1 fullShare x ∗ owns (c : Thread nD τ) arg2 fullShare y ∗ scratch c arg3 arg4 arg5 arg6 arg7
        ∗ (iprop(owns (c : Thread nD τ) arg1 fullShare x ∗ owns (c : Thread nD τ) arg2 fullShare y ∗ scratch c arg3 arg4 arg5 arg6 arg7) -∗ K ⟨⟩))
      ⊢ wp frame (wpE (defs₀ (F := F)) Variants.none c none) E (cc0__ternary_stats_kernel i arg1 harg1 arg2 harg2 arg3 harg3 arg4 harg4 arg5 harg5 arg6 harg6 arg7 harg7) K := by
  simp only [cc0__ternary_stats_kernel_eq_skeleton]; unfold cc0__ternary_stats_kernel_skel
  unfold scratch held owns
  iintro ⟨⟨%f1, %e1, H1⟩, ⟨%f2, %e2, H2⟩, ⟨⟨%f3, H3⟩, ⟨%f4, H4⟩, ⟨%f5, H5⟩, ⟨%f6, H6⟩, ⟨%f7, H7⟩⟩, Hk⟩
  subst e1 e2
  sl_exec (disch := first | sl_exact h1 | sl_exact h2 | sl_exact h3)
  sl_step
  iapply Hk
  isplitl [H1]
  · iexists f1; isplitr; · ipureintro; rfl
    iexact H1
  isplitl [H2]
  · iexists f2; isplitr; · ipureintro; rfl
    iexact H2
  isplitl [H3]; · iexists _; iexact H3
  isplitl [H4]; · iexists _; iexact H4
  isplitl [H5]; · iexists _; iexact H5
  isplitl [H6]; · iexists _; iexact H6
  iexists _; iexact H7

set_option maxHeartbeats 4000000 in
/-- The body at a later point that is not the last: the accumulators are updated, the output buffer untouched. -/
theorem run_mid (y : Vec F S1x1 .f32) (h1 : ¬ first i = 1#1) (h2 : later i = 1#1) (h3 : ¬ k0_cond3 i = 1#1) (K : PUnit → sProp 𝕄) :
    iprop(owns (c : Thread nD τ) arg1 fullShare x ∗ owns (c : Thread nD τ) arg2 fullShare y ∗ scratch c arg3 arg4 arg5 arg6 arg7
        ∗ (iprop(owns (c : Thread nD τ) arg1 fullShare x ∗ owns (c : Thread nD τ) arg2 fullShare y ∗ scratch c arg3 arg4 arg5 arg6 arg7) -∗ K ⟨⟩))
      ⊢ wp frame (wpE (defs₀ (F := F)) Variants.none c none) E (cc0__ternary_stats_kernel i arg1 harg1 arg2 harg2 arg3 harg3 arg4 harg4 arg5 harg5 arg6 harg6 arg7 harg7) K := by
  simp only [cc0__ternary_stats_kernel_eq_skeleton]; unfold cc0__ternary_stats_kernel_skel
  unfold scratch held owns
  iintro ⟨⟨%f1, %e1, H1⟩, ⟨%f2, %e2, H2⟩, ⟨⟨%f3, H3⟩, ⟨%f4, H4⟩, ⟨%f5, H5⟩, ⟨%f6, H6⟩, ⟨%f7, H7⟩⟩, Hk⟩
  subst e1 e2
  sl_exec (disch := first | sl_exact h1 | sl_exact h2 | sl_exact h3)
  sl_step
  iapply Hk
  isplitl [H1]
  · iexists f1; isplitr; · ipureintro; rfl
    iexact H1
  isplitl [H2]
  · iexists f2; isplitr; · ipureintro; rfl
    iexact H2
  isplitl [H3]; · iexists _; iexact H3
  isplitl [H4]; · iexists _; iexact H4
  isplitl [H5]; · iexists _; iexact H5
  isplitl [H6]; · iexists _; iexact H6
  iexists _; iexact H7

set_option maxHeartbeats 4000000 in
/-- The body at the last point: it also makes the second pass over the cache and stores the result. -/
theorem run_last (h1 : ¬ first i = 1#1) (h2 : later i = 1#1) (h3 : k0_cond3 i = 1#1) (K : PUnit → sProp 𝕄) :
    iprop(owns (c : Thread nD τ) arg1 fullShare x ∗ held c arg2 ∗ scratch c arg3 arg4 arg5 arg6 arg7
        ∗ (iprop(owns (c : Thread nD τ) arg1 fullShare x ∗ held c arg2 ∗ scratch c arg3 arg4 arg5 arg6 arg7) -∗ K ⟨⟩))
      ⊢ wp frame (wpE (defs₀ (F := F)) Variants.none c none) E (cc0__ternary_stats_kernel i arg1 harg1 arg2 harg2 arg3 harg3 arg4 harg4 arg5 harg5 arg6 harg6 arg7 harg7) K := by
  simp only [cc0__ternary_stats_kernel_eq_skeleton]; unfold cc0__ternary_stats_kernel_skel
  simp only [k0_part10_eq_skeleton]
  unfold scratch held owns
  iintro ⟨⟨%f1, %e1, H1⟩, ⟨%f2, H2⟩, ⟨⟨%f3, H3⟩, ⟨%f4, H4⟩, ⟨%f5, H5⟩, ⟨%f6, H6⟩, ⟨%f7, H7⟩⟩, Hk⟩
  subst e1
  sl_exec (disch := first | sl_exact h1 | sl_exact h2 | sl_exact h3)
  sl_step
  iapply Hk
  isplitl [H1]
  · iexists f1; isplitr; · ipureintro; rfl
    iexact H1
  isplitl [H2]
  · iexists _; iexact H2
  isplitl [H3]; · iexists _; iexact H3
  isplitl [H4]; · iexists _; iexact H4
  isplitl [H5]; · iexists _; iexact H5
  isplitl [H6]; · iexists _; iexact H6
  iexists _; iexact H7

end Cert.Kernel.Fr

end
-- ==== Proof.KernelFrame.lean ====
/- The frame of the printed kernel: every run of it ends, leaves the argument as it was and every counter at zero.
   What the result holds is not stated here. -/
module

public import proofs.«01_k».proof.Proof.KernelRun

@[expose] public section

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the input window is left at its block; the output window's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Dat.unnamed (cfg := cfg0) 1 t
  Φ _ := Pipeline.ΦA spec0 c
  q _ := fullShare
  owed _ := 0

/-- The window whose contents are not named: the output's. -/
def unnamedOut : Fin cfg0.W → Bool
  | ⟨0, _⟩ => false
  | ⟨1, _⟩ => true

theorem dats_A (c : Dev nD) (w : Fin cfg0.W) : (dats m 0 c).A w = V m c (Pipeline.arrRef spec0 w) := by
  dsimp only [dats]

theorem dats_after0 (c : Dev nD) (t : Fin cfg0.N) : (dats m 0 c).after 0 t = iblk m c 0 t := by dsimp only [dats]

/-- The input's buffer holds its block at every point. -/
theorem dats_before0 (c : Dev nD) (t : Fin cfg0.N) (d) : (dats m 0 c).before 0 t d = iblk m c 0 t :=
  before0_0_of m (dats m 0 c) (dats_A m c 0) (dats_after0 m c) t d

/-- What the body is given at a point: the invariant, nothing owed, the input's block, the output's buffer. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X))

/-- What the body gives back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X))

/-- A whole memref held at some contents, given up to a named reading. -/
theorem held_owns (c : Dev nD) {sp : Space} {S : Shape} {e : EltTy} (M : Memref sig .tc sp S e) :
    (held c M : sProp 𝕄) ⊢ iprop(∃ X, owns (c : Thread nD τ) M fullShare X) := by
  unfold held owns
  iintro ⟨%f, H⟩
  iexists (M.view.read (Elt F) f); iexists f
  isplitr; · ipureintro; rfl
  iexact H

theorem owns_held (c : Dev nD) {sp : Space} {S : Shape} {e : EltTy} (M : Memref sig .tc sp S e) (X) :
    (owns (c : Thread nD τ) M fullShare X : sProp 𝕄) ⊢ held c M := by
  unfold held owns
  iintro ⟨%f, %e, H⟩
  iexists f; iexact H

/-- A whole scratch buffer is held exactly when its points-to is. -/
theorem held_of_whole (c : Dev nD) (b : Ref sig .tc) :
    (iprop(∃ f, ((c : Thread nD τ).loc b) ↦{fullShare} f) : sProp 𝕄) ⊢ held (F := F) c (Memref.whole b) := by
  iintro ⟨%f, H⟩
  iapply (owns_held c (Memref.whole b) f)
  rw [owns_whole]; iexact H

theorem whole_of_held (c : Dev nD) (b : Ref sig .tc) :
    held (F := F) c (Memref.whole b) ⊢ (iprop(∃ f, ((c : Thread nD τ).loc b) ↦{fullShare} f) : sProp 𝕄) := by
  refine (held_owns c (Memref.whole b)).trans ?_
  iintro ⟨%X, H⟩
  iexists X
  rw [owns_whole]; exact .rfl

/-- The body at any point, whatever the scratch and output buffers hold. -/
theorem run_any (c : Dev nD) (t : Fin cfg0.N) (x : Vec F S256x4096 .f32) (y : Vec F S1x1 .f32) (K : PUnit → sProp 𝕄) :
    iprop(owns (c : Thread nD τ) (st0_0 t) fullShare x ∗ owns (c : Thread nD τ) (st0_1 t) fullShare y
        ∗ scratch c (Memref.whole cc0_scratch0) (Memref.whole cc0_scratch1) (Memref.whole cc0_scratch2) (Memref.whole cc0_scratch3) (Memref.whole cc0_scratch4)
        ∗ (iprop(owns (c : Thread nD τ) (st0_0 t) fullShare x ∗ (∃ X, owns (c : Thread nD τ) (st0_1 t) fullShare X)
        ∗ scratch c (Memref.whole cc0_scratch0) (Memref.whole cc0_scratch1) (Memref.whole cc0_scratch2) (Memref.whole cc0_scratch3) (Memref.whole cc0_scratch4)) -∗ K ⟨⟩))
      ⊢ wp frame (wpE (defs₀ (F := F)) Variants.none c none) Set.univ (bodyAt0 t) K := by
  unfold bodyAt0
  by_cases h0 : t.val = 0
  · refine .trans ?_ (run_first c Set.univ (grid0.coords t) _ _ _ _ _ _ _ _ _ _ _ _ _ _ x y ((first_iff t).2 h0) (fun h => (later_iff t).1 h h0)
      (fun h => by have := (last_iff t).1 h; omega) K)
    iintro ⟨H1, H2, Hs, Hk⟩
    isplitl [H1]; · iexact H1
    isplitl [H2]; · iexact H2
    isplitl [Hs]; · iexact Hs
    iintro ⟨H1, H2, Hs⟩
    iapply Hk
    isplitl [H1]; · iexact H1
    isplitl [H2]; · iexists y; iexact H2
    iexact Hs
  · by_cases h3 : t.val = 15
    · refine .trans ?_ (run_last c Set.univ (grid0.coords t) _ _ _ _ _ _ _ _ _ _ _ _ _ _ x (fun h => h0 ((first_iff t).1 h)) ((later_iff t).2 h0)
        ((last_iff t).2 h3) K)
      iintro ⟨H1, H2, Hs, Hk⟩
      isplitl [H1]; · iexact H1
      isplitl [H2]; · iapply (owns_held c _ y); iexact H2
      isplitl [Hs]; · iexact Hs
      iintro ⟨H1, H2, Hs⟩
      iapply Hk
      isplitl [H1]; · iexact H1
      isplitl [H2]; · iapply (held_owns c _); iexact H2
      iexact Hs
    · refine .trans ?_ (run_mid c Set.univ (grid0.coords t) _ _ _ _ _ _ _ _ _ _ _ _ _ _ x y (fun h => h0 ((first_iff t).1 h)) ((later_iff t).2 h0)
        (fun h => h3 ((last_iff t).1 h)) K)
      iintro ⟨H1, H2, Hs, Hk⟩
      isplitl [H1]; · iexact H1
      isplitl [H2]; · iexact H2
      isplitl [Hs]; · iexact Hs
      iintro ⟨H1, H2, Hs⟩
      iapply Hk
      isplitl [H1]; · iexact H1
      isplitl [H2]; · iexists y; iexact H2
      iexact Hs

/-- The body at any point meets its obligation. -/
theorem sound (c : Dev nD) (t : Fin cfg0.N) :
    pre m c t ⊢ wp frame (wpE (defs₀ (F := F)) Variants.none c none) Set.univ (bodyAt0 t) (fun _ => post m c t) := by
  unfold pre post
  simp only [dats_before0, dats_after0]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨S0, S1, S2, S3, S4⟩, Hp⟩, Ho, ⟨%d, H1⟩, ⟨%y, H2⟩⟩
  iapply (run_any c t _ y _)
  isplitl [H1]; · iexact H1
  isplitl [H2]; · iexact H2
  isplitl [S0 S1 S2 S3 S4]
  · isplitl [S0]; · iapply (held_of_whole c cc0_scratch0); iexact S0
    isplitl [S1]; · iapply (held_of_whole c cc0_scratch1); iexact S1
    isplitl [S2]; · iapply (held_of_whole c cc0_scratch2); iexact S2
    isplitl [S3]; · iapply (held_of_whole c cc0_scratch3); iexact S3
    iapply (held_of_whole c cc0_scratch4); iexact S4
  iintro ⟨H1, H2, S0, S1, S2, S3, S4⟩
  isplitl [S0 S1 S2 S3 S4 Hp]
  · isplitl [S0 S1 S2 S3 S4]
    · isplitl [S0]; · iapply (whole_of_held c cc0_scratch0); iexact S0
      isplitl [S1]; · iapply (whole_of_held c cc0_scratch1); iexact S1
      isplitl [S2]; · iapply (whole_of_held c cc0_scratch2); iexact S2
      isplitl [S3]; · iapply (whole_of_held c cc0_scratch3); iexact S3
      iapply (whole_of_held c cc0_scratch4); iexact S4
    · iexact Hp
  isplitl [Ho]; · iexact Ho
  isplitl [H1]; · iexact H1
  iexact H2

/-- The body's row of the table at point `t`. -/
theorem row (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ unnamedOut := fun t => by
  rw [bigSep_W0, bigSep_W0, row]
  exact triple_restated (sound m c t) rfl .rfl fun _ => .rfl

/-- The one buffer the host line after the region writes. -/
def tail : Finset (Ref sig .tc) := {main_v1}

theorem tail_writes : ∀ ops ∈ ([hostOps1] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  simp only [tail, Finset.mem_singleton]
  exact Proc.devRef_injective .tc hb

set_option backward.isDefEq.respectTransparency.types false in
set_option maxHeartbeats 4000000 in
/-- The frame: every run ends, the argument unchanged and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  Pipeline.θ_run_frame_around_T_forget cfgs (dats m) (0 : Fin 1) launch0 defs₀ Variants.none unnamedOut tail m ρ main
    (hbody := fun c => (obligation m c).loose) (hshare := fun c w => by fin_cases w <;> rfl)
    (howed := fun _ _ => rfl) (V₀ := V0 m) (opss := [hostOps1]) (hsub := sfx_sub) (hfresh := sfx_fresh) (hkeep := sfx_keeps) (hT := tail_writes)
    (hmain := hmain m Variants.none) (hA := dats_A m) (hΦ := fun _ _ => rfl)
    (Q' := fun r => (∀ c : Dev nD,
      r.2.mem ((c.tc : Thread nD τ).loc main_arg0) = m ((c.tc : Thread nD τ).loc main_arg0)) ∧ r.2.sem = fun _ => 0)
    (hQ' := fun r h => ⟨fun c => (Pipeline.RDat.FramePostR.arr_in h.1 c 0 rfl).trans (dats_A m c 0), h.2⟩)

end Cert.Kernel.Fr

end
-- ==== Proof.IdealPass1.lean ====
/- The kernel's first pass over one block: sixteen trips, each taking 16 rows of the block into the two running
   accumulators and storing their magnitudes in the cache. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.WritesUnit
public import Idealize.ShloMosaic.Lib.ValueIdxCore
public import Idealize.ShloMosaic.Lib.Pipeline.Value

@[expose] public section

set_option maxRecDepth 16384

noncomputable section

namespace Cert.KernelIdeal.Va

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The 16 rows of a block that trip `k` reads. -/
abbrev rows (x : Vec F S256x4096 .f32) (k : Fin k0_t1_loop.trips) : Vec F S16x4096 .f32 :=
  fun j => x ((Rect.unit (s := S256x4096) (k0_off1 k) S16x4096.size (k0_off1_inb k)).emb j)

/-- The two accumulators after `n` trips over the block `x`. -/
def accAt (x : Vec F S256x4096 .f32) : ℕ → FVec F S16x1024 .f32 × FVec F S16x1024 .bf16
  | 0 => (k0_pay1, k0_pay2)
  | n + 1 => if h : n < k0_t1_loop.trips then
      (k0_pay7 (accAt x n).1 (rows x ⟨n, h⟩), k0_pay8 (accAt x n).2 (rows x ⟨n, h⟩)) else accAt x n

theorem accAt_succ (x : Vec F S256x4096 .f32) (k : Fin k0_t1_loop.trips) :
    accAt x (k.val + 1) = (k0_pay7 (accAt x k.val).1 (rows x k), k0_pay8 (accAt x k.val).2 (rows x k)) :=
  dif_pos k.isLt

/-- What the cache keeps of one entry: its magnitude, rounded to the cache's width. -/
def cell (v : F .f32) : F .bf16 := FloatOps.absf (FloatOps.truncf .bf16 bitsLt_bf16_f32 v)

/-- The cache `Y` after `n` trips of point `i` over the block `x`, from the cache `Y0`: the rows done hold the
    block's cells, and the rows of earlier points are kept. -/
structure Cached (i : grid0.Coords) (x : Vec F S256x4096 .f32) (Y0 : Vec F S4096x4096 .bf16) (n : ℕ)
    (Y : Vec F S4096x4096 .bf16) : Prop where
  done : ∀ (j : S4096x4096.Idx) (p : S256x4096.Idx), (j 0).val = 256 * (i 0).val + (p 0).val → (j 1).val = (p 1).val →
    (p 0).val < 16 * n → Y j = cell (x p)
  kept : ∀ j : S4096x4096.Idx, (j 0).val < 256 * (i 0).val → Y j = Y0 j

theorem cached_zero (i : grid0.Coords) (x : Vec F S256x4096 .f32) (Y0 : Vec F S4096x4096 .bf16) : Cached i x Y0 0 Y0 :=
  ⟨fun _ _ _ _ h => by omega, fun _ _ => rfl⟩

theorem pay4_apply (v : Vec F S16x4096 .f32) (j : S16x4096.Idx) : k0_pay4 v j = cell (v j) := by
  unfold k0_pay4 k0_pay3
  rw [shapeCast_self]
  rfl

variable (c : Dev nD) (E : Set ℕ) (i : grid0.Coords) (arg1 : Memref sig .tc .vmem S256x4096 .f32) (harg1 : arg1.IsWhole) (arg2 : Memref sig .tc .smem S1x1 .f32) (harg2 : arg2.IsWhole)
  (arg3 : Memref sig .tc .vmem S4096x4096 .bf16) (harg3 : arg3.IsWhole) (arg4 : Memref sig .tc .vmem S16x1024 .f32) (harg4 : arg4.IsWhole)
  (arg5 : Memref sig .tc .vmem S16x1024 .f32) (harg5 : arg5.IsWhole) (arg6 : Memref sig .tc .vmem S16x2048 .f32) (harg6 : arg6.IsWhole)
  (arg7 : Memref sig .tc .vmem S16x2048 .f32) (harg7 : arg7.IsWhole)

/-- One store of 16 rows takes the cache after `k` trips to the cache after `k + 1`. -/
theorem cached_succ (x : Vec F S256x4096 .f32) (Y0 : Vec F S4096x4096 .bf16) (k : Fin k0_t1_loop.trips)
    (f3 : arg3.view.ty.Contents (Elt F)) (h : Cached i x Y0 k.val (arg3.view.read (Elt F) f3)) :
    Cached i x Y0 (k.val + 1) (arg3.view.read (Elt F) (arg3.view.writes (Elt F) f3
      [⟨Rect.unit (s := S4096x4096) (k0_off2 i k) S16x4096.size (k0_off2_inb i k), k0_pay4 (rows x k)⟩])) := by
  have hk : k.val < 16 := Nat.lt_of_lt_of_le k.isLt k0_t1_abs.2.1
  constructor
  · intro j p h0 h1 hp
    by_cases hlt : (p 0).val < 16 * k.val
    · rw [View.read_writes_cons_unit_of_not_mem (off' := ![256 * (i 0).val + 16 * k.val, 0]) _ _ _ _ _ _ (k0_off2_eq i k) 0
        (Or.inl (by show (j 0).val < 256 * (i 0).val + 16 * k.val; omega))]
      exact h.done j p h0 h1 hlt
    · have hp1 : (p 1).val < 4096 := (p 1).isLt
      let q : S16x4096.Idx := ValueIdx.ix2 ⟨(p 0).val - 16 * k.val, by omega⟩ ⟨(p 1).val, hp1⟩
      rw [View.read_writes_cons_unit_of_mem (off' := ![256 * (i 0).val + 16 * k.val, 0]) _ _ _ _ _ _ q (k0_off2_eq i k)
        (fun a => by
          fin_cases a
          · show (j 0).val = 256 * (i 0).val + 16 * k.val + ((p 0).val - 16 * k.val); omega
          · show (j 1).val = 0 + (p 1).val; omega)]
      rw [pay4_apply]
      refine congrArg cell (congrArg x (funext fun a => Fin.ext ?_))
      have e := k0_off1_eq k
      show k0_off1 k a + 1 * (q a).val = (p a).val
      rw [e]
      fin_cases a
      · show 16 * k.val + 1 * ((p 0).val - 16 * k.val) = (p 0).val; omega
      · show 0 + 1 * (p 1).val = (p 1).val; omega
  · intro j hj
    rw [View.read_writes_cons_unit_of_not_mem (off' := ![256 * (i 0).val + 16 * k.val, 0]) _ _ _ _ _ _ (k0_off2_eq i k) 0
        (Or.inl (by show (j 0).val < 256 * (i 0).val + 16 * k.val; omega))]
    exact h.kept j hj

/-- The first pass's invariant: the block as it was, the accumulators those of `k` trips, the cache filled so far. -/
def inv1 (f1 : arg1.view.ty.Contents (Elt F)) (Y0 : Vec F S4096x4096 .bf16) (k : ℕ)
    (acc : FVec F S16x1024 .f32 × FVec F S16x1024 .bf16) : sProp 𝕄 :=
  iprop((arg1.view.loc (c : Thread nD τ) ↦[arg1.view.set]{fullShare} f1)
    ∗ ∃ f3, (arg3.view.loc (c : Thread nD τ) ↦[arg3.view.set]{fullShare} f3)
      ∗ ⌜acc = accAt (arg1.view.read (Elt F) f1) k ∧ Cached i (arg1.view.read (Elt F) f1) Y0 k (arg3.view.read (Elt F) f3)⌝)

set_option maxHeartbeats 4000000 in
/-- One trip keeps the invariant. -/
theorem trip1 (f1 : arg1.view.ty.Contents (Elt F)) (Y0 : Vec F S4096x4096 .bf16) (k : Fin k0_t1_loop.trips)
    (acc : FVec F S16x1024 .f32 × FVec F S16x1024 .bf16) :
    inv1 c i arg1 arg3 f1 Y0 k.val acc
      ⊢ wp frame (wpE (defs₀ (F := F)) Variants.none c none) E
        (k0_t1_body i arg1 harg1 arg2 harg2 arg3 harg3 arg4 harg4 arg5 harg5 arg6 harg6 arg7 harg7 k acc)
        (inv1 c i arg1 arg3 f1 Y0 (k.val + 1)) := by
  have hk : k.val < 16 := Nat.lt_of_lt_of_le k.isLt k0_t1_abs.2.1
  unfold inv1 k0_t1_body
  iintro ⟨H1, %f3, H3, %hp⟩
  obtain ⟨ha, hc⟩ := hp
  sl_exec
  sl_step
  isplitl [H1]; · iexact H1
  iexists _
  isplitl [H3]; · iexact H3
  ipureintro
  refine ⟨?_, cached_succ i arg3 _ Y0 k f3 hc⟩
  rw [accAt_succ, ← ha]
  rfl

end Cert.KernelIdeal.Va
-- ==== Proof.IdealPass2.lean ====
/- The kernel's second pass over the cache: sixteen trips, each adding 256 rows' masked magnitudes and their count to
   two running accumulators. -/
module

public import proofs.«01_k».proof.Proof.IdealPass1
public import Idealize.ShloMosaic.Lib.WritesUnit
public import Idealize.ShloMosaic.Lib.ValueIdxCore
public import Idealize.ShloMosaic.Lib.Pipeline.Value

@[expose] public section

set_option maxRecDepth 16384

noncomputable section

namespace Cert.KernelIdeal.Va

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row `j 0` of group `r` in trip `k`, in the cache's left half. -/
def lt (Y : Vec F S4096x4096 .bf16) (k : ℕ) (r : ℕ) : Vec F S16x2048 .bf16 :=
  fun j => Y (ValueIdx.ix2 (Fin.ofNat 4096 (256 * k + 16 * r + (j 0).val)) (Fin.ofNat 4096 (j 1).val))
/-- The same rows in the cache's right half. -/
def rt (Y : Vec F S4096x4096 .bf16) (k : ℕ) (r : ℕ) : Vec F S16x2048 .bf16 :=
  fun j => Y (ValueIdx.ix2 (Fin.ofNat 4096 (256 * k + 16 * r + (j 0).val)) (Fin.ofNat 4096 (2048 + (j 1).val)))

/-- The zero and the one the kernel selects between. -/
abbrev z16 : F .bf16 := Scalar.ofBits .bf16 0x0000#16
abbrev o16 : F .bf16 := Scalar.ofBits .bf16 0x3F80#16

/-- The entries of `y` above the threshold `θ`, and `z` elsewhere. -/
def keep (θ : F .bf16) (y : Vec F S16x2048 .bf16) : FVec F S16x2048 .bf16 :=
  select (cmpf .ogt y (broadcast S16x2048 θ)) y (broadcast S16x2048 z16)
/-- One at the entries of `y` above the threshold `θ`, zero elsewhere. -/
def hits (θ : F .bf16) (y : Vec F S16x2048 .bf16) : FVec F S16x2048 .bf16 :=
  select (cmpf .ogt y (broadcast S16x2048 θ)) (broadcast S16x2048 o16) (broadcast S16x2048 z16)

/-- The sum of the first `n` groups' kept entries, left and right half paired. -/
def keepSum (θ : F .bf16) (L R : ℕ → Vec F S16x2048 .bf16) : ℕ → FVec F S16x2048 .bf16
  | 0 => broadcast S16x2048 z16
  | n + 1 => addf (keepSum θ L R n) (addf (keep θ (L n)) (keep θ (R n)))
/-- The count of the first `n` groups' kept entries. -/
def hitSum (θ : F .bf16) (L R : ℕ → Vec F S16x2048 .bf16) : ℕ → FVec F S16x2048 .bf16
  | 0 => broadcast S16x2048 z16
  | n + 1 => addf (hitSum θ L R n) (addf (hits θ (L n)) (hits θ (R n)))

theorem keepSum_congr (θ : F .bf16) (L R L' R' : ℕ → Vec F S16x2048 .bf16) (n : ℕ) (hL : ∀ r < n, L r = L' r) (hR : ∀ r < n, R r = R' r) :
    keepSum θ L R n = keepSum θ L' R' n := by
  induction n with
  | zero => rfl
  | succ n ih =>
    show addf (keepSum θ L R n) _ = addf (keepSum θ L' R' n) _
    rw [ih (fun r h => hL r (by omega)) (fun r h => hR r (by omega)), hL n (by omega), hR n (by omega)]

theorem hitSum_congr (θ : F .bf16) (L R L' R' : ℕ → Vec F S16x2048 .bf16) (n : ℕ) (hL : ∀ r < n, L r = L' r) (hR : ∀ r < n, R r = R' r) :
    hitSum θ L R n = hitSum θ L' R' n := by
  induction n with
  | zero => rfl
  | succ n ih =>
    show addf (hitSum θ L R n) _ = addf (hitSum θ L' R' n) _
    rw [ih (fun r h => hL r (by omega)) (fun r h => hR r (by omega)), hL n (by omega), hR n (by omega)]

/-- The two accumulators after `n` trips. -/
def sumAt (θ : F .bf16) (Y : Vec F S4096x4096 .bf16) : ℕ → FVec F S16x2048 .f32
  | 0 => k0_pay72
  | n + 1 => addf (sumAt θ Y n) (extf .f32 (keepSum θ (lt Y n) (rt Y n) 16) bitsLt_bf16_f32)
def cntAt (θ : F .bf16) (Y : Vec F S4096x4096 .bf16) : ℕ → FVec F S16x2048 .f32
  | 0 => k0_pay73
  | n + 1 => addf (cntAt θ Y n) (extf .f32 (hitSum θ (lt Y n) (rt Y n) 16) bitsLt_bf16_f32)

variable (c : Dev nD) (E : Set ℕ) (i : grid0.Coords) (arg1 : Memref sig .tc .vmem S256x4096 .f32) (harg1 : arg1.IsWhole) (arg2 : Memref sig .tc .smem S1x1 .f32) (harg2 : arg2.IsWhole)
  (arg3 : Memref sig .tc .vmem S4096x4096 .bf16) (harg3 : arg3.IsWhole) (arg4 : Memref sig .tc .vmem S16x1024 .f32) (harg4 : arg4.IsWhole)
  (arg5 : Memref sig .tc .vmem S16x1024 .f32) (harg5 : arg5.IsWhole) (arg6 : Memref sig .tc .vmem S16x2048 .f32) (harg6 : arg6.IsWhole)
  (arg7 : Memref sig .tc .vmem S16x2048 .f32) (harg7 : arg7.IsWhole)

/-- A load of a whole buffer reads what its view reads. -/
theorem readAt_full {sp : Space} {n0 n1 : ℕ} {e : EltTy} (M : Memref sig .tc sp ⟨2, ![n0, n1]⟩ e)
    (inb : ∀ a, (![0, 0] : Fin 2 → ℕ) a + (⟨2, ![n0, n1]⟩ : Shape).size a ≤ (⟨2, ![n0, n1]⟩ : Shape).size a)
    (f : M.view.ty.Contents (Elt F)) :
    M.view.readAt (Elt F) (Rect.unit (s := ⟨2, ![n0, n1]⟩) ![0, 0] (⟨2, ![n0, n1]⟩ : Shape).size inb).toLoadRect f
      = M.view.read (Elt F) f := by
  funext j
  refine congrArg (M.view.read (Elt F) f) (funext fun a => Fin.ext ?_)
  fin_cases a
  · show 0 + 1 * (j 0).val = (j 0).val; omega
  · show 0 + 1 * (j 1).val = (j 1).val; omega

/-- A store of a whole buffer is what its view then reads. -/
theorem read_full {sp : Space} {n0 n1 : ℕ} {e : EltTy} (M : Memref sig .tc sp ⟨2, ![n0, n1]⟩ e)
    (inb : ∀ a, (![0, 0] : Fin 2 → ℕ) a + (⟨2, ![n0, n1]⟩ : Shape).size a ≤ (⟨2, ![n0, n1]⟩ : Shape).size a)
    (f : M.view.ty.Contents (Elt F)) (L : List (View.Piece (Elt F) (⟨2, ![n0, n1]⟩ : Shape) e))
    (w : (⟨2, ![n0, n1]⟩ : Shape).Idx → Elt F e) :
    M.view.read (Elt F) (M.view.writes (Elt F) f
      (⟨Rect.unit (s := ⟨2, ![n0, n1]⟩) ![0, 0] (⟨2, ![n0, n1]⟩ : Shape).size inb, w⟩ :: L)) = w := by
  funext j
  refine View.read_writes_cons_unit_of_mem (off := ![0, 0]) (size := (⟨2, ![n0, n1]⟩ : Shape).size) (off' := ![0, 0]) M.view f inb w L j j rfl fun a => ?_
  fin_cases a
  · show (j 0).val = 0 + (j 0).val; omega
  · show (j 1).val = 0 + (j 1).val; omega

/-- The load of group `r` in trip `k` from the cache's left half, as the kernel addresses it. -/
def ld_lt (k : Fin k0_t2_loop.trips) (h3 : k0_cond3 i = 1#1) (f : arg3.view.ty.Contents (Elt F)) (r : ℕ) : Vec F S16x2048 .bf16 :=
  arg3.view.readAt (Elt F) (Rect.unit (s := S4096x4096) (k0_off3 k (BitVec.ofNat 32 (r % 16))) S16x2048.size
    (k0_off3_inb i k h3 ⟨r % 16, Nat.mod_lt _ (by decide)⟩)).toLoadRect f

theorem ld_lt_eq (k : Fin k0_t2_loop.trips) (h3 : k0_cond3 i = 1#1) (f : arg3.view.ty.Contents (Elt F)) (r : ℕ) (hr : r < 16) :
    ld_lt i arg3 k h3 f r = lt (arg3.view.read (Elt F) f) k.val r := by
  have hk : k.val < 16 := Nat.lt_of_lt_of_le k.isLt k0_t2_abs.2.1
  have e : k0_off3 k (BitVec.ofNat 32 (r % 16)) = ![256 * k.val + 16 * (r % 16), 0] :=
    k0_off3_eq k ⟨r % 16, Nat.mod_lt _ (by decide)⟩
  funext j
  have h0 : (j 0).val < 16 := (j 0).isLt
  have h1 : (j 1).val < 2048 := (j 1).isLt
  refine congrArg (arg3.view.read (Elt F) f) (funext fun a => Fin.ext ?_)
  refine (congrArg (· + 1 * (j a).val) (congrFun e a)).trans ?_
  fin_cases a
  · show 256 * k.val + 16 * (r % 16) + 1 * (j 0).val = (256 * k.val + 16 * r + (j 0).val) % 4096; omega
  · show 0 + 1 * (j 1).val = ((j 1).val) % 4096; omega

/-- The load of group `r` in trip `k` from the cache's right half, as the kernel addresses it. -/
def ld_rt (k : Fin k0_t2_loop.trips) (h3 : k0_cond3 i = 1#1) (f : arg3.view.ty.Contents (Elt F)) (r : ℕ) : Vec F S16x2048 .bf16 :=
  arg3.view.readAt (Elt F) (Rect.unit (s := S4096x4096) (k0_off4 k (BitVec.ofNat 32 (r % 16))) S16x2048.size
    (k0_off4_inb i k h3 ⟨r % 16, Nat.mod_lt _ (by decide)⟩)).toLoadRect f

theorem ld_rt_eq (k : Fin k0_t2_loop.trips) (h3 : k0_cond3 i = 1#1) (f : arg3.view.ty.Contents (Elt F)) (r : ℕ) (hr : r < 16) :
    ld_rt i arg3 k h3 f r = rt (arg3.view.read (Elt F) f) k.val r := by
  have hk : k.val < 16 := Nat.lt_of_lt_of_le k.isLt k0_t2_abs.2.1
  have e : k0_off4 k (BitVec.ofNat 32 (r % 16)) = ![256 * k.val + 16 * (r % 16), 2048] :=
    k0_off4_eq k ⟨r % 16, Nat.mod_lt _ (by decide)⟩
  funext j
  have h0 : (j 0).val < 16 := (j 0).isLt
  have h1 : (j 1).val < 2048 := (j 1).isLt
  refine congrArg (arg3.view.read (Elt F) f) (funext fun a => Fin.ext ?_)
  refine (congrArg (· + 1 * (j a).val) (congrFun e a)).trans ?_
  fin_cases a
  · show 256 * k.val + 16 * (r % 16) + 1 * (j 0).val = (256 * k.val + 16 * r + (j 0).val) % 4096; omega
  · show 2048 + 1 * (j 1).val = (2048 + (j 1).val) % 4096; omega

/-- The second pass's invariant: the cache as it was, the accumulators those of `k` trips. -/
def inv2 (v14 : Vec F S16x1024 .f32) (f3 : arg3.view.ty.Contents (Elt F)) (k : ℕ) (_ : Unit) : sProp 𝕄 :=
  iprop((arg3.view.loc (c : Thread nD τ) ↦[arg3.view.set]{fullShare} f3)
    ∗ (∃ f6, (arg6.view.loc (c : Thread nD τ) ↦[arg6.view.set]{fullShare} f6)
      ∗ ⌜arg6.view.read (Elt F) f6 = sumAt (k0_pay71 v14) (arg3.view.read (Elt F) f3) k⌝)
    ∗ (∃ f7, (arg7.view.loc (c : Thread nD τ) ↦[arg7.view.set]{fullShare} f7)
      ∗ ⌜arg7.view.read (Elt F) f7 = cntAt (k0_pay71 v14) (arg3.view.read (Elt F) f3) k⌝))

set_option maxHeartbeats 16000000 in
/-- One trip keeps the invariant. -/
theorem trip2 (h3 : k0_cond3 i = 1#1) (v14 : Vec F S16x1024 .f32) (f3 : arg3.view.ty.Contents (Elt F)) (k : Fin k0_t2_loop.trips) (u : Unit) :
    inv2 c arg3 arg6 arg7 v14 f3 k.val u
      ⊢ wp frame (wpE (defs₀ (F := F)) Variants.none c none) E
        (k0_t2_body i arg1 harg1 arg2 harg2 arg3 harg3 arg4 harg4 arg5 harg5 arg6 harg6 arg7 harg7 h3 v14 z16 o16 k u)
        (inv2 c arg3 arg6 arg7 v14 f3 (k.val + 1)) := by
  have hk : k.val < 16 := Nat.lt_of_lt_of_le k.isLt k0_t2_abs.2.1
  unfold inv2 k0_t2_body
  iintro ⟨H3, ⟨%f6, H6, %h6⟩, ⟨%f7, H7, %h7⟩⟩
  sl_exec
  sl_step
  isplitl [H3]; · iexact H3
  isplitl [H6]
  · iexists _
    isplitl [H6]; · iexact H6
    ipureintro
    rw [read_full, sumAt, ← h6, ← keepSum_congr _ _ _ _ _ 16 (ld_lt_eq i arg3 k h3 f3) (ld_rt_eq i arg3 k h3 f3),
      ← readAt_full arg6 inb_S16x2048_S16x2048_0_0 f6]
    refine Eq.trans (shapeCast_self _ _) ?_
    rfl
  · iexists _
    isplitl [H7]; · iexact H7
    ipureintro
    rw [read_full, cntAt, ← h7, ← hitSum_congr _ _ _ _ _ 16 (ld_lt_eq i arg3 k h3 f3) (ld_rt_eq i arg3 k h3 f3),
      ← readAt_full arg7 inb_S16x2048_S16x2048_0_0 f7]
    refine Eq.trans (shapeCast_self _ _) ?_
    rfl

end Cert.KernelIdeal.Va
-- ==== Proof.IdealPoint.lean ====
/- One grid point of the kernel, with values: what the body leaves in the cache, in the two running accumulators and,
   at the last point, in the output. -/
module

public import proofs.«01_k».proof.Proof.IdealPass2

@[expose] public section

set_option maxRecDepth 16384

noncomputable section

namespace Cert.KernelIdeal.Va

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole memref held at some contents. -/
abbrev held (c : Dev nD) {sp : Space} {S : Shape} {e : EltTy} (M : Memref sig .tc sp S e) : sProp 𝕄 :=
  iprop(∃ f, (M.view.loc (c : Thread nD τ) ↦[M.view.set]{fullShare} f))

/-- The first branch's test, "this is point 0", as the body computes it. -/
abbrev first (i : grid0.Coords) : BitVec 1 :=
  Scalar.cmpi .ne (Scalar.extui (Scalar.cmpi .eq (BitVec.ofNat 32 (i 0).val) 0#32)) 0#32
/-- The second branch's test, "this is a later point", as the body computes it. -/
abbrev later (i : grid0.Coords) : BitVec 1 :=
  Scalar.cmpi .ne (Scalar.extui (Scalar.cmpi .sgt (BitVec.ofNat 32 (i 0).val) 0#32)) 0#32

theorem first_iff : ∀ t : Fin grid0.N, (first (grid0.coords t) = 1#1) ↔ t.val = 0 := by decide +kernel
theorem later_iff : ∀ t : Fin grid0.N, (later (grid0.coords t) = 1#1) ↔ t.val ≠ 0 := by decide +kernel
theorem last_iff : ∀ t : Fin grid0.N, (k0_cond3 (grid0.coords t) = 1#1) ↔ t.val = 15 := by decide +kernel
theorem trips1 : Scf.trips k0_t1_loop.lb k0_t1_loop.ub k0_t1_loop.st = 16 := by decide +kernel
theorem trips2 : Scf.trips k0_t2_loop.lb k0_t2_loop.ub k0_t2_loop.st = 16 := by decide +kernel

/-- A block's contribution to the running sum and to the running maximum. -/
abbrev addend (x : Vec F S256x4096 .f32) : FVec F S16x1024 .f32 := (accAt x 16).1
abbrev maxend (x : Vec F S256x4096 .f32) : FVec F S16x1024 .f32 := extf .f32 (accAt x 16).2 bitsLt_bf16_f32

/-- The result, from the full cache and the two final accumulators. -/
def fin (Y : Vec F S4096x4096 .bf16) (A B : Vec F S16x1024 .f32) : F .f32 :=
  k0_pay14 (k0_pay70 B) (k0_pay75 (sumAt (k0_pay71 A) Y 16)) (k0_pay76 (cntAt (k0_pay71 A) Y 16))

theorem pay10_eq (a : FVec F S16x1024 .f32) : k0_pay10 a = a := shapeCast_self _ _
theorem pay11_eq (a : FVec F S16x1024 .bf16) : k0_pay11 a = extf .f32 a bitsLt_bf16_f32 := shapeCast_self _ _
theorem pay12_eq (a b : FVec F S16x1024 .f32) : k0_pay12 a b = addf b a := shapeCast_self _ _
theorem pay13_eq (a : FVec F S16x1024 .bf16) (b : FVec F S16x1024 .f32) :
    k0_pay13 a b = maximumf b (extf .f32 a bitsLt_bf16_f32) := shapeCast_self _ _

variable (c : Dev nD) (E : Set ℕ) (i : grid0.Coords) (arg1 : Memref sig .tc .vmem S256x4096 .f32) (harg1 : arg1.IsWhole) (arg2 : Memref sig .tc .smem S1x1 .f32) (harg2 : arg2.IsWhole)
  (arg3 : Memref sig .tc .vmem S4096x4096 .bf16) (harg3 : arg3.IsWhole) (arg4 : Memref sig .tc .vmem S16x1024 .f32) (harg4 : arg4.IsWhole)
  (arg5 : Memref sig .tc .vmem S16x1024 .f32) (harg5 : arg5.IsWhole) (arg6 : Memref sig .tc .vmem S16x2048 .f32) (harg6 : arg6.IsWhole)
  (arg7 : Memref sig .tc .vmem S16x2048 .f32) (harg7 : arg7.IsWhole)

variable (x : Vec F S256x4096 .f32) (Y : Vec F S4096x4096 .bf16) (A B : Vec F S16x1024 .f32)

/-- The five scratch buffers: the cache and the two accumulators at given values, the second pass's two at anything. -/
abbrev state (Y : Vec F S4096x4096 .bf16) (A B : Vec F S16x1024 .f32) : sProp 𝕄 :=
  iprop(owns (c : Thread nD τ) arg3 fullShare Y ∗ owns (c : Thread nD τ) arg4 fullShare A ∗ owns (c : Thread nD τ) arg5 fullShare B
    ∗ held c arg6 ∗ held c arg7)

set_option maxHeartbeats 8000000 in
/-- The body at point 0: the accumulators become the block's own. -/
theorem point_first (y : Vec F S1x1 .f32) (h1 : first i = 1#1) (h2 : ¬ later i = 1#1) (h3 : ¬ k0_cond3 i = 1#1) (K : PUnit → sProp 𝕄) :
    iprop(owns (c : Thread nD τ) arg1 fullShare x ∗ owns (c : Thread nD τ) arg2 fullShare y ∗ state c arg3 arg4 arg5 arg6 arg7 Y A B
        ∗ (∀ Y', iprop(⌜Cached i x Y 16 Y'⌝ ∗ owns (c : Thread nD τ) arg1 fullShare x ∗ owns (c : Thread nD τ) arg2 fullShare y
            ∗ state c arg3 arg4 arg5 arg6 arg7 Y' (addend x) (maxend x)) -∗ K ⟨⟩))
      ⊢ wp frame (wpE (defs₀ (F := F)) Variants.none c none) E (cc0__ternary_stats_kernel i arg1 harg1 arg2 harg2 arg3 harg3 arg4 harg4 arg5 harg5 arg6 harg6 arg7 harg7) K := by
  simp only [cc0__ternary_stats_kernel_eq_skeleton]; unfold cc0__ternary_stats_kernel_skel

  unfold state held owns
  iintro ⟨⟨%f1, %e1, H1⟩, ⟨%f2, %e2, H2⟩, ⟨⟨%f3, %e3, H3⟩, ⟨%f4, %e4, H4⟩, ⟨%f5, %e5, H5⟩, ⟨%f6, H6⟩, ⟨%f7, H7⟩⟩, Hk⟩
  subst e1 e3 e4 e5 e2
  sl_exec
  sl_for (inv1 c i arg1 arg3 f1 (arg3.view.read (Elt F) f3)) $$ [H1 H3]
  case region => exact trip1 c E i arg1 harg1 arg2 harg2 arg3 harg3 arg4 harg4 arg5 harg5 arg6 harg6 arg7 harg7 f1 _
  · unfold inv1
    isplitl [H1]; · iexact H1
    iexists f3
    isplitl [H3]; · iexact H3
    ipureintro
    exact ⟨rfl, cached_zero i _ _⟩
  unfold inv1
  iintro %acc ⟨H1, %f3', H3, %hp⟩
  obtain ⟨ha, hc⟩ := hp
  rw [trips1] at ha hc
  subst ha
  sl_exec (disch := first | sl_exact h1 | sl_exact h2 | sl_exact h3)
  sl_step
  iapply Hk $$ %(arg3.view.read (Elt F) f3')
  isplitr; · ipureintro; exact hc
  isplitl [H1]
  · iexists f1; isplitr; · ipureintro; rfl
    iexact H1
  isplitl [H2]
  · iexists _; isplitr
    rotate_left 1; · iexact H2
    ipureintro; rfl
  isplitl [H3]
  · iexists f3'; isplitr; · ipureintro; rfl
    iexact H3
  isplitl [H4]
  · iexists _; isplitr
    rotate_left 1; · iexact H4
    ipureintro; exact (read_full arg4 _ _ _ _).trans (pay10_eq _)
  isplitl [H5]
  · iexists _; isplitr
    rotate_left 1; · iexact H5
    ipureintro; exact (read_full arg5 _ _ _ _).trans (pay11_eq _)
  isplitl [H6]; · iexists _; iexact H6
  iexists _; iexact H7

set_option maxHeartbeats 8000000 in
/-- The body at a later point that is not the last: the block joins the accumulators. -/
theorem point_mid (y : Vec F S1x1 .f32) (h1 : ¬ first i = 1#1) (h2 : later i = 1#1) (h3 : ¬ k0_cond3 i = 1#1) (K : PUnit → sProp 𝕄) :
    iprop(owns (c : Thread nD τ) arg1 fullShare x ∗ owns (c : Thread nD τ) arg2 fullShare y ∗ state c arg3 arg4 arg5 arg6 arg7 Y A B
        ∗ (∀ Y', iprop(⌜Cached i x Y 16 Y'⌝ ∗ owns (c : Thread nD τ) arg1 fullShare x ∗ owns (c : Thread nD τ) arg2 fullShare y
            ∗ state c arg3 arg4 arg5 arg6 arg7 Y' (addf A (addend x)) (maximumf B (maxend x))) -∗ K ⟨⟩))
      ⊢ wp frame (wpE (defs₀ (F := F)) Variants.none c none) E (cc0__ternary_stats_kernel i arg1 harg1 arg2 harg2 arg3 harg3 arg4 harg4 arg5 harg5 arg6 harg6 arg7 harg7) K := by
  simp only [cc0__ternary_stats_kernel_eq_skeleton]; unfold cc0__ternary_stats_kernel_skel

  unfold state held owns
  iintro ⟨⟨%f1, %e1, H1⟩, ⟨%f2, %e2, H2⟩, ⟨⟨%f3, %e3, H3⟩, ⟨%f4, %e4, H4⟩, ⟨%f5, %e5, H5⟩, ⟨%f6, H6⟩, ⟨%f7, H7⟩⟩, Hk⟩
  subst e1 e3 e4 e5 e2
  sl_exec
  sl_for (inv1 c i arg1 arg3 f1 (arg3.view.read (Elt F) f3)) $$ [H1 H3]
  case region => exact trip1 c E i arg1 harg1 arg2 harg2 arg3 harg3 arg4 harg4 arg5 harg5 arg6 harg6 arg7 harg7 f1 _
  · unfold inv1
    isplitl [H1]; · iexact H1
    iexists f3
    isplitl [H3]; · iexact H3
    ipureintro
    exact ⟨rfl, cached_zero i _ _⟩
  unfold inv1
  iintro %acc ⟨H1, %f3', H3, %hp⟩
  obtain ⟨ha, hc⟩ := hp
  rw [trips1] at ha hc
  subst ha
  sl_exec (disch := first | sl_exact h1 | sl_exact h2 | sl_exact h3)
  sl_step
  iapply Hk $$ %(arg3.view.read (Elt F) f3')
  isplitr; · ipureintro; exact hc
  isplitl [H1]
  · iexists f1; isplitr; · ipureintro; rfl
    iexact H1
  isplitl [H2]
  · iexists _; isplitr
    rotate_left 1; · iexact H2
    ipureintro; rfl
  isplitl [H3]
  · iexists f3'; isplitr; · ipureintro; rfl
    iexact H3
  isplitl [H4]
  · iexists _; isplitr
    rotate_left 1; · iexact H4
    ipureintro; exact (read_full arg4 _ _ _ _).trans ((pay12_eq _ _).trans (congrArg (addf · _) (readAt_full arg4 _ f4)))
  isplitl [H5]
  · iexists _; isplitr
    rotate_left 1; · iexact H5
    ipureintro; exact (read_full arg5 _ _ _ _).trans ((pay13_eq _ _).trans (congrArg (maximumf · _) (readAt_full arg5 _ f5)))
  isplitl [H6]; · iexists _; iexact H6
  iexists _; iexact H7

set_option maxHeartbeats 8000000 in
/-- The body at the last point: it also makes the second pass and stores the result. -/
theorem point_last (h1 : ¬ first i = 1#1) (h2 : later i = 1#1) (h3 : k0_cond3 i = 1#1) (K : PUnit → sProp 𝕄) :
    iprop(owns (c : Thread nD τ) arg1 fullShare x ∗ held c arg2 ∗ state c arg3 arg4 arg5 arg6 arg7 Y A B
        ∗ (∀ Y', iprop(⌜Cached i x Y 16 Y'⌝ ∗ owns (c : Thread nD τ) arg1 fullShare x ∗ owns (c : Thread nD τ) arg2 fullShare (fun _ => fin Y' (addf A (addend x)) (maximumf B (maxend x)))
            ∗ state c arg3 arg4 arg5 arg6 arg7 Y' (addf A (addend x)) (maximumf B (maxend x))) -∗ K ⟨⟩))
      ⊢ wp frame (wpE (defs₀ (F := F)) Variants.none c none) E (cc0__ternary_stats_kernel i arg1 harg1 arg2 harg2 arg3 harg3 arg4 harg4 arg5 harg5 arg6 harg6 arg7 harg7) K := by
  simp only [cc0__ternary_stats_kernel_eq_skeleton]; unfold cc0__ternary_stats_kernel_skel
  simp only [k0_part10_eq_skeleton]
  unfold state held owns
  iintro ⟨⟨%f1, %e1, H1⟩, ⟨%f2, H2⟩, ⟨⟨%f3, %e3, H3⟩, ⟨%f4, %e4, H4⟩, ⟨%f5, %e5, H5⟩, ⟨%f6, H6⟩, ⟨%f7, H7⟩⟩, Hk⟩
  subst e1 e3 e4 e5
  sl_exec
  sl_for (inv1 c i arg1 arg3 f1 (arg3.view.read (Elt F) f3)) $$ [H1 H3]
  case region => exact trip1 c E i arg1 harg1 arg2 harg2 arg3 harg3 arg4 harg4 arg5 harg5 arg6 harg6 arg7 harg7 f1 _
  · unfold inv1
    isplitl [H1]; · iexact H1
    iexists f3
    isplitl [H3]; · iexact H3
    ipureintro
    exact ⟨rfl, cached_zero i _ _⟩
  unfold inv1
  iintro %acc ⟨H1, %f3', H3, %hp⟩
  obtain ⟨ha, hc⟩ := hp
  rw [trips1] at ha hc
  subst ha
  sl_exec (disch := first | sl_exact h1 | sl_exact h2 | sl_exact h3)
  sl_for (inv2 c arg3 arg6 arg7 _ f3') $$ [H3 H6 H7]
  case region => exact trip2 c E i arg1 harg1 arg2 harg2 arg3 harg3 arg4 harg4 arg5 harg5 arg6 harg6 arg7 harg7 h3 _ f3'
  · unfold inv2
    isplitl [H3]; · iexact H3
    isplitl [H6]
    · iexists _
      isplitl [H6]; · iexact H6
      ipureintro
      exact read_full ..
    · iexists _
      isplitl [H7]; · iexact H7
      ipureintro
      exact read_full ..
  unfold inv2
  iintro %u ⟨H3, ⟨%f6', H6, %h6⟩, ⟨%f7', H7, %h7⟩⟩
  rw [trips2] at h6 h7
  sl_exec (disch := first | sl_exact h1 | sl_exact h2 | sl_exact h3)
  sl_step
  iapply Hk $$ %(arg3.view.read (Elt F) f3')
  isplitr; · ipureintro; exact hc
  isplitl [H1]
  · iexists f1; isplitr; · ipureintro; rfl
    iexact H1
  isplitl [H2]
  · iexists _; isplitr
    rotate_left 1; · iexact H2
    ipureintro
    refine (read_full arg2 _ _ _ _).trans (funext fun _ => ?_)
    have e4 : point_last.sl.v14 c arg1 arg4 f1 f4 = addf (arg4.view.read (Elt F) f4) (addend (arg1.view.read (Elt F) f1)) :=
      (readAt_full arg4 inb_S16x1024_S16x1024_0_0 _).trans ((read_full arg4 _ _ _ _).trans
        ((pay12_eq (addend (arg1.view.read (Elt F) f1)) _).trans (congrArg (addf · (addend (arg1.view.read (Elt F) f1))) (readAt_full arg4 _ f4))))
    have e5 : point_last.sl.v21 c arg1 arg5 f1 f5 = maximumf (arg5.view.read (Elt F) f5) (maxend (arg1.view.read (Elt F) f1)) :=
      (readAt_full arg5 inb_S16x1024_S16x1024_0_0 _).trans ((read_full arg5 _ _ _ _).trans
        ((pay13_eq (accAt (arg1.view.read (Elt F) f1) 16).2 _).trans (congrArg (maximumf · (maxend (arg1.view.read (Elt F) f1))) (readAt_full arg5 _ f5))))
    rw [e4, ← readAt_full arg6 inb_S16x2048_S16x2048_0_0 f6'] at h6
    rw [e4, ← readAt_full arg7 inb_S16x2048_S16x2048_0_0 f7'] at h7
    rw [fin, ← e5, ← h6, ← h7]
    rfl
  isplitl [H3]
  · iexists f3'; isplitr; · ipureintro; rfl
    iexact H3
  isplitl [H4]
  · iexists _; isplitr
    rotate_left 1; · iexact H4
    ipureintro; exact (read_full arg4 _ _ _ _).trans ((pay12_eq _ _).trans (congrArg (addf · _) (readAt_full arg4 _ f4)))
  isplitl [H5]
  · iexists _; isplitr
    rotate_left 1; · iexact H5
    ipureintro; exact (read_full arg5 _ _ _ _).trans ((pay13_eq _ _).trans (congrArg (maximumf · _) (readAt_full arg5 _ f5)))
  isplitl [H6]; · iexists _; iexact H6
  iexists _; iexact H7

end Cert.KernelIdeal.Va
-- ==== Proof.IdealTotals.lean ====
/- What the scratch buffers hold between grid points: the cache rows of the blocks done, and the two accumulators over
   those blocks. -/
module

public import proofs.«01_k».proof.Proof.IdealPoint

@[expose] public section

set_option maxRecDepth 16384

noncomputable section

namespace Cert.KernelIdeal.Va

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The argument's block at point `n`: rows `256 n` to `256 n + 255`. -/
def blk (X : Vec F S4096x4096 .f32) (n : ℕ) : Vec F S256x4096 .f32 :=
  fun p => X (ValueIdx.ix2 (Fin.ofNat 4096 (256 * n + (p 0).val)) (Fin.ofNat 4096 (p 1).val))

/-- The running sum after point `n`. -/
def totA (X : Vec F S4096x4096 .f32) : ℕ → FVec F S16x1024 .f32
  | 0 => addend (blk X 0)
  | n + 1 => addf (totA X n) (addend (blk X (n + 1)))
/-- The running maximum after point `n`. -/
def totB (X : Vec F S4096x4096 .f32) : ℕ → FVec F S16x1024 .f32
  | 0 => maxend (blk X 0)
  | n + 1 => maximumf (totB X n) (maxend (blk X (n + 1)))

/-- The full cache. -/
def full (X : Vec F S4096x4096 .f32) : Vec F S4096x4096 .bf16 := fun j => cell (X j)

/-- The kernel's result on the argument `X`. -/
def result (X : Vec F S4096x4096 .f32) : F .f32 := fin (full X) (totA X 15) (totB X 15)

/-- The scratch contents before point `t`. -/
structure Good (X : Vec F S4096x4096 .f32) (t : ℕ) (Y : Vec F S4096x4096 .bf16) (A B : Vec F S16x1024 .f32) : Prop where
  rows : ∀ j : S4096x4096.Idx, (j 0).val < 256 * t → Y j = cell (X j)
  sum : ∀ n, t = n + 1 → A = totA X n
  max : ∀ n, t = n + 1 → B = totB X n

/-- Nothing is asked before the first point. -/
theorem good_zero (X : Vec F S4096x4096 .f32) (Y : Vec F S4096x4096 .bf16) (A B : Vec F S16x1024 .f32) : Good X 0 Y A B :=
  ⟨fun _ h => by omega, fun _ h => by omega, fun _ h => by omega⟩

theorem coords_val : ∀ t : Fin grid0.N, ((grid0.coords t) 0).val = t.val := by decide +kernel

/-- Sixteen trips over the block of point `t` fill that point's rows of the cache. -/
theorem rows_succ (X : Vec F S4096x4096 .f32) (t : Fin grid0.N) (Y Y' : Vec F S4096x4096 .bf16)
    (h : ∀ j : S4096x4096.Idx, (j 0).val < 256 * t.val → Y j = cell (X j))
    (hc : Cached (grid0.coords t) (blk X t.val) Y 16 Y') :
    ∀ j : S4096x4096.Idx, (j 0).val < 256 * (t.val + 1) → Y' j = cell (X j) := by
  intro j hj
  have e := coords_val t
  have j0 : (j 0).val < 4096 := (j 0).isLt
  have j1 : (j 1).val < 4096 := (j 1).isLt
  by_cases hlt : (j 0).val < 256 * t.val
  · rw [hc.kept j (by omega)]
    exact h j hlt
  · have hp : (j 0).val - 256 * t.val < 256 := by omega
    rw [hc.done j (ValueIdx.ix2 ⟨(j 0).val - 256 * t.val, hp⟩ ⟨(j 1).val, j1⟩)
      (by show (j 0).val = 256 * ((grid0.coords t) 0).val + ((j 0).val - 256 * t.val); omega) rfl
      (by show (j 0).val - 256 * t.val < 16 * 16; omega)]
    refine congrArg cell (congrArg X (funext fun a => Fin.ext ?_))
    fin_cases a
    · show (256 * t.val + ((j 0).val - 256 * t.val)) % 4096 = (j 0).val; omega
    · show (j 1).val % 4096 = (j 1).val; omega

/-- Past the last point the cache is full. -/
theorem rows_full (X : Vec F S4096x4096 .f32) (Y : Vec F S4096x4096 .bf16)
    (h : ∀ j : S4096x4096.Idx, (j 0).val < 256 * 16 → Y j = cell (X j)) : Y = full X :=
  funext fun j => h j (by have := (j 0).isLt; exact this)

end Cert.KernelIdeal.Va
-- ==== Proof.IdealLaunch.lean ====
/- The kernel's run with its value: every run of it ends with the result holding `result` of the argument, the argument
   unchanged and every counter at zero. -/
module

public import proofs.«01_k».proof.Proof.IdealTotals
public import Idealize.ShloMosaic.Lib.Pipeline.ValueKit

@[expose] public section

set_option maxRecDepth 16384

noncomputable section

namespace Cert.KernelIdeal.Va

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument as core `c` holds it. -/
abbrev arg (c : Dev nD) : Vec F S4096x4096 .f32 := m ((c : Thread nD τ).loc main_arg0)

/-- What a core holds between points: the cache and the accumulators as `Good` says, and its random register. -/
def PhiS (c : Dev nD) (t : ℕ) : sProp 𝕄 :=
  iprop((∃ Y A B, ⌜Good (arg m c) t Y A B⌝ ∗ state c (Memref.whole cc0_scratch0) (Memref.whole cc0_scratch1) (Memref.whole cc0_scratch2)
      (Memref.whole cc0_scratch3) (Memref.whole cc0_scratch4) Y A B)
    ∗ ∃ r, prngReg c r)

/-- The proof data: the input window is left at its block, the output window at the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => result (arg m c)
  Φ t := PhiS m c t.val
  q _ := fullShare
  owed _ := 0

theorem dats_A (c : Dev nD) (w : Fin cfg0.W) : (dats m 0 c).A w = V m c (Pipeline.arrRef spec0 w) := by
  dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = fun _ => result (arg m c) := by dsimp only [dats]

/-- The input's buffer holds its block at every point. -/
theorem dats_before0 (c : Dev nD) (t : Fin cfg0.N) (d) : (dats m 0 c).before 0 t d = iblk m c 0 t :=
  before0_0_of m (dats m 0 c) (dats_A m c 0) (dats_after0 m c) t d

theorem index0 : ∀ t : Fin grid0.N, win0_0.index t = ![t.val, 0] := by decide +kernel

/-- The window's block at point `t` is rows `256 t` onwards of the argument. -/
theorem iblk_eq (c : Dev nD) (t : Fin cfg0.N) : iblk m c 0 t = blk (arg m c) t.val := by
  have ht : t.val < 16 := t.isLt
  funext p
  have h0 : (p 0).val < 256 := (p 0).isLt
  have h1 : (p 1).val < 4096 := (p 1).isLt
  refine congrArg (arg m c) (funext fun a => Fin.ext ?_)
  blk_simp [index0]
  fin_cases a
  · show t.val * 256 + (p 0).val = (256 * t.val + (p 0).val) % 4096; omega
  · show 0 * 4096 + (p 1).val = (p 1).val % 4096; omega

/-- A whole memref held at some contents, given up to a named reading. -/
theorem held_owns (c : Dev nD) {sp : Space} {S : Shape} {e : EltTy} (M : Memref sig .tc sp S e) :
    (held c M : sProp 𝕄) ⊢ iprop(∃ X, owns (c : Thread nD τ) M fullShare X) := by
  unfold held owns
  iintro ⟨%f, H⟩
  iexists (M.view.read (Elt F) f); iexists f
  isplitr; · ipureintro; rfl
  iexact H

theorem owns_held (c : Dev nD) {sp : Space} {S : Shape} {e : EltTy} (M : Memref sig .tc sp S e) (X) :
    (owns (c : Thread nD τ) M fullShare X : sProp 𝕄) ⊢ held c M := by
  unfold held owns
  iintro ⟨%f, %e, H⟩
  iexists f; iexact H

/-- A whole scratch buffer is held exactly when its points-to is. -/
theorem held_of_whole (c : Dev nD) (b : Ref sig .tc) :
    (iprop(∃ f, ((c : Thread nD τ).loc b) ↦{fullShare} f) : sProp 𝕄) ⊢ held (F := F) c (Memref.whole b) := by
  iintro ⟨%f, H⟩
  iapply (owns_held c (Memref.whole b) f)
  rw [owns_whole]; iexact H

theorem whole_of_held (c : Dev nD) (b : Ref sig .tc) :
    held (F := F) c (Memref.whole b) ⊢ (iprop(∃ f, ((c : Thread nD τ).loc b) ↦{fullShare} f) : sProp 𝕄) := by
  refine (held_owns c (Memref.whole b)).trans ?_
  iintro ⟨%X, H⟩
  iexists X
  rw [owns_whole]; exact .rfl

/-- What the body is given at a point: the invariant, nothing owed, the input's block, the output's buffer. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- The output's buffer after a point: written if the point writes it, as it was if not. -/
def outAfter (c : Dev nD) (t : Fin cfg0.N) : sProp 𝕄 :=
  (match cfg0.idle 1 (cfg0.grid.coords t) with
      | true => match (cfg0.win 1).flush t with
        | false => iprop(∃ d, owns (c : Thread nD τ) (st0_1 t) fullShare ((dats m 0 c).before 1 t d))
        | true => owns (c : Thread nD τ) (st0_1 t) fullShare ((dats m 0 c).after 1 t)
      | false => owns (c : Thread nD τ) (st0_1 t) fullShare ((dats m 0 c).after 1 t))

/-- What the body gives back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ outAfter m c t)

theorem idle_last (t : Fin cfg0.N) (h : t.val = 15) : cfg0.idle 1 (cfg0.grid.coords t) = false := by
  have e : k0_cond3 (grid0.coords t) = 1#1 := (last_iff t).2 h
  show (!(k0_cond3 (grid0.coords t) == 1#1)) = false
  rw [e]; rfl

theorem idle_early (t : Fin cfg0.N) (h : t.val ≠ 15) : cfg0.idle 1 (cfg0.grid.coords t) = true := by
  have e : ¬ k0_cond3 (grid0.coords t) = 1#1 := fun e => h ((last_iff t).1 e)
  show (!(k0_cond3 (grid0.coords t) == 1#1)) = true
  rw [beq_false_of_ne e]; rfl

theorem flush_early (t : Fin cfg0.N) (h : t.val ≠ 15) : (cfg0.win 1).flush t = false := by
  have ht : t.val < 16 := t.isLt
  exact Bool.eq_false_iff.2 fun e => by have := (flush0_1 t).1 e; omega

theorem outAfter_early (c : Dev nD) (t : Fin cfg0.N) (h : t.val ≠ 15) :
    outAfter m c t = iprop(∃ d, owns (c : Thread nD τ) (st0_1 t) fullShare ((dats m 0 c).before 1 t d)) := by
  unfold outAfter
  rw [idle_early t h, flush_early t h]

theorem outAfter_last (c : Dev nD) (t : Fin cfg0.N) (h : t.val = 15) :
    outAfter m c t = owns (c : Thread nD τ) (st0_1 t) fullShare (fun _ => result (arg m c)) := by
  unfold outAfter
  rw [idle_last t h, dats_after1]

/-- The body at any point meets its obligation. -/
theorem sound (c : Dev nD) (t : Fin cfg0.N) :
    pre m c t ⊢ wp frame (wpE (defs₀ (F := F)) Variants.none c none) Set.univ (bodyAt0 t) (fun _ => post m c t) := by
  have ht : t.val < 16 := t.isLt
  unfold pre post
  simp only [dats_before0, dats_after0]
  rw [show (dats m 0 c).Φ t.succ = PhiS m c (t.val + 1) from rfl, show (dats m 0 c).Φ t.castSucc = PhiS m c t.val from rfl,
    show (dats m 0 c).owesAt () t.succ = (dats m 0 c).owesAt () t.castSucc from rfl]
  unfold PhiS bodyAt0
  iintro ⟨⟨⟨%Y, %A, %B, %hg, Hs⟩, Hp⟩, Ho, ⟨%d1, H1⟩, ⟨%d, H2⟩⟩
  by_cases h0 : t.val = 0
  · rw [outAfter_early m c t (by omega)]
    iapply (point_first c Set.univ (grid0.coords t) _ _ _ _ _ _ _ _ _ _ _ _ _ _ (iblk m c 0 t) Y A B _ ((first_iff t).2 h0)
      (fun h => (later_iff t).1 h h0) (fun h => by have := (last_iff t).1 h; omega) _)
    isplitl [H1]; · iexact H1
    isplitl [H2]; · iexact H2
    isplitl [Hs]; · iexact Hs
    iintro %Y' ⟨%hc, H1, H2, Hs⟩
    rw [iblk_eq] at hc
    isplitl [Hs Hp]
    · isplitl [Hs]
      · iexists Y', _, _
        isplitr
        rotate_left 1; · iexact Hs
        ipureintro
        refine ⟨rows_succ _ t Y Y' hg.rows hc, fun n hn => ?_, fun n hn => ?_⟩
        · obtain rfl : n = 0 := by omega
          rw [iblk_eq, h0]; rfl
        · obtain rfl : n = 0 := by omega
          rw [iblk_eq, h0]; rfl
      · iexact Hp
    isplitl [Ho]; · iexact Ho
    isplitl [H1]; · iexact H1
    iexists d; iexact H2
  · obtain ⟨n, hn⟩ : ∃ n, t.val = n + 1 := ⟨t.val - 1, by omega⟩
    have hA := hg.sum n hn
    have hB := hg.max n hn
    have good : ∀ Y', Cached (grid0.coords t) (iblk m c 0 t) Y 16 Y' →
        Good (arg m c) (t.val + 1) Y' (addf A (addend (iblk m c 0 t))) (maximumf B (maxend (iblk m c 0 t))) := by
      intro Y' hc
      rw [iblk_eq] at hc ⊢
      refine ⟨rows_succ _ t Y Y' hg.rows hc, fun k hk => ?_, fun k hk => ?_⟩
      · obtain rfl : k = n + 1 := by omega
        rw [hA, hn]; rfl
      · obtain rfl : k = n + 1 := by omega
        rw [hB, hn]; rfl
    by_cases h3 : t.val = 15
    · rw [outAfter_last m c t h3]
      iapply (point_last c Set.univ (grid0.coords t) _ _ _ _ _ _ _ _ _ _ _ _ _ _ (iblk m c 0 t) Y A B (fun h => h0 ((first_iff t).1 h))
        ((later_iff t).2 h0) ((last_iff t).2 h3) _)
      isplitl [H1]; · iexact H1
      isplitl [H2]; · iapply (owns_held c _ _); iexact H2
      isplitl [Hs]; · iexact Hs
      iintro %Y' ⟨%hc, H1, H2, Hs⟩
      have hG := good Y' hc
      have hY : Y' = full (arg m c) := rows_full _ _ (fun j hj => hG.rows j (by omega))
      have hr : fin Y' (addf A (addend (iblk m c 0 t))) (maximumf B (maxend (iblk m c 0 t))) = result (arg m c) := by
        rw [hY, hG.sum 15 (by omega), hG.max 15 (by omega)]; rfl
      rw [hr]
      isplitl [Hs Hp]
      · isplitl [Hs]
        · iexists Y', _, _
          isplitr
          rotate_left 1; · iexact Hs
          ipureintro; exact hG
        · iexact Hp
      isplitl [Ho]; · iexact Ho
      isplitl [H1]; · iexact H1
      iexact H2
    · rw [outAfter_early m c t h3]
      iapply (point_mid c Set.univ (grid0.coords t) _ _ _ _ _ _ _ _ _ _ _ _ _ _ (iblk m c 0 t) Y A B _ (fun h => h0 ((first_iff t).1 h))
        ((later_iff t).2 h0) (fun h => h3 ((last_iff t).1 h)) _)
      isplitl [H1]; · iexact H1
      isplitl [H2]; · iexact H2
      isplitl [Hs]; · iexact Hs
      iintro %Y' ⟨%hc, H1, H2, Hs⟩
      isplitl [Hs Hp]
      · isplitl [Hs]
        · iexists Y', _, _
          isplitr
          rotate_left 1; · iexact Hs
          ipureintro; exact good Y' hc
        · iexact Hp
      isplitl [Ho]; · iexact Ho
      isplitl [H1]; · iexact H1
      iexists d; iexact H2

/-- The body's row of the table at point `t`. -/
theorem row (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ := fun t => by
  rw [bigSep_W0, bigSep_W0, row]
  exact triple_restated (sound m c t) rfl .rfl fun _ => .rfl

/-- The launch's scratch buffers and register give the invariant before the first point. -/
theorem phi_in (c : Dev nD) : Pipeline.ΦA spec0 c ⊢ (PhiS m c 0 : sProp 𝕄) := by
  unfold Pipeline.ΦA PhiS
  rw [scopedRest0_eq]
  iintro ⟨⟨⟨%f0, S0⟩, ⟨%f1, S1⟩, ⟨%f2, S2⟩, S3, S4⟩, Hp⟩
  isplitl [S0 S1 S2 S3 S4]
  · iexists f0, f1, f2
    isplitr; · ipureintro; exact good_zero _ _ _ _
    isplitl [S0]; · rw [owns_whole]; iexact S0
    isplitl [S1]; · rw [owns_whole]; iexact S1
    isplitl [S2]; · rw [owns_whole]; iexact S2
    isplitl [S3]; · iapply (held_of_whole c cc0_scratch3); iexact S3
    iapply (held_of_whole c cc0_scratch4); iexact S4
  iexact Hp

/-- The invariant after the last point gives them back. -/
theorem phi_out (c : Dev nD) (t : ℕ) : (PhiS m c t : sProp 𝕄) ⊢ Pipeline.ΦA spec0 c := by
  unfold Pipeline.ΦA PhiS
  rw [scopedRest0_eq]
  iintro ⟨⟨%Y, %A, %B, %hg, S0, S1, S2, S3, S4⟩, Hp⟩
  isplitl [S0 S1 S2 S3 S4]
  · isplitl [S0]; · iapply (whole_of_held c cc0_scratch0); iapply (owns_held c _ _); iexact S0
    isplitl [S1]; · iapply (whole_of_held c cc0_scratch1); iapply (owns_held c _ _); iexact S1
    isplitl [S2]; · iapply (whole_of_held c cc0_scratch2); iapply (owns_held c _ _); iexact S2
    isplitl [S3]; · iapply (whole_of_held c cc0_scratch3); iexact S3
    iapply (whole_of_held c cc0_scratch4); iexact S4
  iexact Hp

/-- The output's array after the run: its one entry is the result. -/
theorem out_arr (c : Dev nD) : (dats m 0 c).arrAt 1 cfg0.N = fun _ => result (arg m c) :=
  (dats m 0 c).arrAt_eq_of_after_last 1 ⟨15, by decide⟩ (by decide +kernel) _ fun j => by
    rw [dats_after1]; rfl

/-- The result buffer after the line that follows the region: the output array's one entry. -/
theorem out_res (c : Dev nD) : Pipeline.afterTail₀ cfgs (dats m) 0 (V0 m) [hostOps1] c main_v1 = fun _ => result (arg m c) := by
  unfold Pipeline.afterTail₀
  have e : Pipeline.withArrays (cfgs 0).spec c (V0 m c) (fun w => (dats m 0 c).arrAt w (cfgs 0).N) (Proc.devRef .tc main_v0) = fun _ => result (arg m c) :=
    (Pipeline.withArrays_arr (cfgs 0).spec launch0.win.arr_inj c (V0 m c) _ 1).trans (out_arr m c)
  show StableHlo.after [StableHlo.reshape main_v0 main_v1 rfl shapeCasts_S1x1_S_] _ _ = _
  after_results
  rw [e]
  rfl

set_option backward.isDefEq.respectTransparency.types false in
set_option maxHeartbeats 4000000 in
/-- The run: the result holds `result` of the argument, the argument is unchanged, every counter is at zero. -/
theorem run :
    θ_run defs (onTc (τ := τ) (main (F := F))) ⟨m, fun _ => 0, ρ⟩ (fun r => (∀ c : Dev nD,
      r.2.mem ((c.tc : Thread nD τ).loc main_v1) = (fun _ => result (arg m c))
      ∧ r.2.mem ((c.tc : Thread nD τ).loc main_arg0) = m ((c.tc : Thread nD τ).loc main_arg0)) ∧ r.2.sem = fun _ => 0) :=
  Pipeline.θ_run_frame_around_track cfgs (dats m) (0 : Fin 1) launch0 defs₀ Variants.none m ρ main
    (hbody := fun c => (obligation m c).loose) (hshare := fun c w => by fin_cases w <;> rfl)
    (howed := fun _ _ => rfl) (V₀ := V0 m) (opss := [hostOps1]) (hsub := sfx_sub) (hfresh := sfx_fresh) (hkeep := sfx_keeps)
    (hmain := hmain m Variants.none) (hA := dats_A m) (hin := phi_in m) (hout := fun c => phi_out m c _)
    (Q' := fun r => (∀ c : Dev nD,
      r.2.mem ((c.tc : Thread nD τ).loc main_v1) = (fun _ => result (arg m c))
      ∧ r.2.mem ((c.tc : Thread nD τ).loc main_arg0) = m ((c.tc : Thread nD τ).loc main_arg0)) ∧ r.2.sem = fun _ => 0)
    (hQ' := fun r h => ⟨fun c => ⟨((h.1 c).2 main_v1 (by decide)).trans (out_res m c),
      ((h.1 c).1 0).trans (((dats m 0 c).arrAt_in 0 rfl _).trans (dats_A m c 0))⟩, h.2⟩)

end Cert.KernelIdeal.Va
-- ==== Proof.Blocks.lean ====
/- Sums and bounds over a 4096-row array, cut into the tiles in which the kernel walks it. -/
module
public import Mathlib.Algebra.BigOperators.Group.Finset.Basic
public import Mathlib.Algebra.BigOperators.Intervals
public import Mathlib.Tactic.IntervalCases
public import Mathlib.Tactic.Abel
public import Idealize.ShloMosaic.PureOps.Ideal.Laws
@[expose] public section
open Finset

namespace Cert.Blocks

/-- A range of `m n` numbers is `m` runs of `n`. -/
theorem sum_split {M : Type*} [AddCommMonoid M] (m n : ℕ) (f : ℕ → M) :
    ∑ x ∈ range (m * n), f x = ∑ i ∈ range m, ∑ j ∈ range n, f (n * i + j) := by
  induction m with
  | zero => simp
  | succ m ih => rw [Nat.succ_mul, sum_range_add, ih, sum_range_succ, Nat.mul_comm m n]

/-- The kernel's order: a place `(a, b)` in a tile of 16 rows and `w` columns, then the block, the group of rows in the
    block and the tile along the row. Together they walk all rows and columns once. -/
theorem sum_tiles {M : Type*} [AddCommMonoid M] (w Q : ℕ) (g : ℕ → ℕ → M) :
    ∑ a ∈ range 16, ∑ b ∈ range w, ∑ i ∈ range 16, ∑ k ∈ range 16, ∑ q ∈ range Q, g (256 * i + 16 * k + a) (w * q + b)
      = ∑ r ∈ range 4096, ∑ c ∈ range (Q * w), g r c := by
  have hr : ∀ h : ℕ → M, ∑ r ∈ range 4096, h r = ∑ i ∈ range 16, ∑ k ∈ range 16, ∑ a ∈ range 16, h (256 * i + 16 * k + a) := by
    intro h
    rw [show 4096 = 16 * 256 from rfl, sum_split 16 256]
    refine sum_congr rfl fun i _ => ?_
    rw [show 256 = 16 * 16 from rfl, sum_split 16 16]
    exact sum_congr rfl fun k _ => sum_congr rfl fun a _ => by rw [Nat.add_assoc]
  rw [hr, sum_congr rfl fun a _ => (show _ = ∑ i ∈ range 16, ∑ k ∈ range 16, ∑ c ∈ range (Q * w), g (256 * i + 16 * k + a) c from ?_)]
  · rw [sum_comm]
    exact sum_congr rfl fun i _ => sum_comm
  · rw [sum_comm]
    refine sum_congr rfl fun i _ => ?_
    rw [sum_comm]
    refine sum_congr rfl fun k _ => ?_
    rw [sum_comm, sum_split]

/-- A bound on the tiles of 1024 columns is a bound on the whole array. -/
theorem forall_tiles (p : ℕ → ℕ → Prop) :
    (∀ a < 16, ∀ b < 1024, ∀ i < 16, ∀ k < 16, ∀ q < 4, p (256 * i + 16 * k + a) (1024 * q + b))
      ↔ ∀ r < 4096, ∀ c < 4096, p r c := by
  constructor
  · intro h r hr c hc
    have e := h (r % 16) (by omega) (c % 1024) (by omega) (r / 256) (by omega) (r % 256 / 16) (by omega) (c / 1024) (by omega)
    rwa [show 256 * (r / 256) + 16 * (r % 256 / 16) + r % 16 = r by omega, show 1024 * (c / 1024) + c % 1024 = c by omega] at e
  · intro h a ha b hb i hi k hk q hq
    exact h _ (by omega) _ (by omega)

end Cert.Blocks
-- ==== Proof.IdealEntries.lean ====
/- The kernel's vectors over the reals, entry by entry: each entry is a sum, or a maximum, of entries of the argument. -/
module

public import proofs.«01_k».proof.Proof.IdealTotals
public import proofs.«01_k».proof.Proof.Blocks
public import Idealize.ShloMosaic.Lib.ValueIdx
public import Idealize.ShloMosaic.Lib.IdealHost
public import Idealize.ShloMosaic.PureOps.Ideal.Laws

@[expose] public section

set_option maxRecDepth 16384

noncomputable section

namespace Cert.KernelIdeal.Va

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Finset

/-- Entry `(r, c)` of the argument, rows and columns counted by natural numbers. -/
def ent (X : Vec Ideal S4096x4096 .f32) (r c : ℕ) : EReal := X (ValueIdx.ix2 (Fin.ofNat 4096 r) (Fin.ofNat 4096 c))
/-- The absolute value. -/
def ab (x : EReal) : EReal := max x (-x)
/-- `y` where it is above the threshold, zero elsewhere. -/
def kept (θ y : EReal) : EReal := Scalar.select (Ideal.cmp .ogt y θ) y 0
/-- One where `y` is above the threshold, zero elsewhere. -/
def hit (θ y : EReal) : EReal := Scalar.select (Ideal.cmp .ogt y θ) 1 0

theorem rows_blk (X : Vec Ideal S4096x4096 .f32) (n : ℕ) (k) (p : S16x4096.Idx) :
    rows (blk X n) k p = ent X (256 * n + 16 * k.val + (p 0).val) (p 1).val := by
  refine congrArg X (congrArg₂ ValueIdx.ix2 (congrArg (Fin.ofNat 4096) ?_) (congrArg (Fin.ofNat 4096) ?_))
  · show 256 * n + (k0_off1 k 0 + 1 * (p 0).val) = _
    rw [k0_off1_eq]
    show 256 * n + (16 * k.val + 1 * (p 0).val) = _
    omega
  · show k0_off1 k 1 + 1 * (p 1).val = _
    rw [k0_off1_eq]
    show 0 + 1 * (p 1).val = _
    omega

/-- One group of sixteen rows adds, at each place, the absolute values of its four tiles. -/
theorem pay7_apply (acc : FVec Ideal S16x1024 .f32) (v : Vec Ideal S16x4096 .f32) (V : ℕ → ℕ → EReal)
    (hv : ∀ p : S16x4096.Idx, v p = V (p 0).val (p 1).val) (j : S16x1024.Idx) :
    k0_pay7 acc v j = acc j + ∑ q ∈ range 4, ab (V (j 0).val (1024 * q + (j 1).val)) := by
  refine (show _ = acc j + ((ab (v _) + ab (v _)) + (ab (v _) + ab (v _))) from rfl).trans ?_
  simp only [hv]
  simp only [sum_range_succ, sum_range_zero, zero_add]
  show acc j + ((ab (V (0 + (0 + (j 0).val)) (0 + (0 + (j 1).val))) + ab (V (0 + (0 + (j 0).val)) (2048 + (0 + (j 1).val))))
    + (ab (V (0 + (0 + (j 0).val)) (0 + (1024 + (j 1).val))) + ab (V (0 + (0 + (j 0).val)) (2048 + (1024 + (j 1).val))))) = _
  simp only [zero_add, ← Nat.add_assoc, Nat.mul_zero, Nat.mul_one, Nat.reduceMul, Nat.reduceAdd]
  abel

/-- And takes the maximum with them. -/
theorem pay8_le (acc : FVec Ideal S16x1024 .bf16) (v : Vec Ideal S16x4096 .f32) (V : ℕ → ℕ → EReal)
    (hv : ∀ p : S16x4096.Idx, v p = V (p 0).val (p 1).val) (j : S16x1024.Idx) (z : EReal) :
    (k0_pay8 acc v j : EReal) ≤ z ↔ (acc j : EReal) ≤ z ∧ ∀ q < 4, V (j 0).val (1024 * q + (j 1).val) ≤ z := by
  have e : (k0_pay8 acc v j : EReal) = max (acc j : EReal) (max (max (v _) (v _)) (max (v _) (v _))) := rfl
  rw [e]
  simp only [hv]
  show max (acc j : EReal) (max (max (V (0 + (0 + (j 0).val)) (0 + (0 + (j 1).val))) (V (0 + (0 + (j 0).val)) (2048 + (0 + (j 1).val))))
    (max (V (0 + (0 + (j 0).val)) (0 + (1024 + (j 1).val))) (V (0 + (0 + (j 0).val)) (2048 + (1024 + (j 1).val))))) ≤ z ↔ _
  simp only [zero_add, ← Nat.add_assoc, Nat.reduceAdd, max_le_iff]
  constructor
  · rintro ⟨h, ⟨h0, h2⟩, h1, h3⟩
    refine ⟨h, fun q hq => ?_⟩
    interval_cases q
    · simpa using h0
    · exact h1
    · exact h2
    · exact h3
  · rintro ⟨h, hq⟩
    exact ⟨h, ⟨by simpa using hq 0 (by omega), hq 2 (by omega)⟩, hq 1 (by omega), hq 3 (by omega)⟩

theorem trips_eq : k0_t1_loop.trips = 16 := trips1

theorem accAt_fst (X : Vec Ideal S4096x4096 .f32) (b n : ℕ) (hn : n ≤ 16) (j : S16x1024.Idx) :
    ((accAt (blk X b) n).1 j : EReal)
      = ∑ k ∈ range n, ∑ q ∈ range 4, ab (ent X (256 * b + 16 * k + (j 0).val) (1024 * q + (j 1).val)) := by
  induction n with
  | zero => exact Ideal.ofBits_zero_f32
  | succ n ih =>
    have h : n < k0_t1_loop.trips := by rw [trips_eq]; omega
    rw [accAt_succ _ ⟨n, h⟩, sum_range_succ, ← ih (by omega)]
    exact pay7_apply _ _ (fun r c => ent X (256 * b + 16 * n + r) c) (rows_blk X b ⟨n, h⟩) j

theorem accAt_snd_le (X : Vec Ideal S4096x4096 .f32) (b n : ℕ) (hn : n ≤ 16) (j : S16x1024.Idx) (z : EReal) :
    ((accAt (blk X b) n).2 j : EReal) ≤ z
      ↔ ∀ k < n, ∀ q < 4, ent X (256 * b + 16 * k + (j 0).val) (1024 * q + (j 1).val) ≤ z := by
  induction n with
  | zero =>
    refine iff_of_true ?_ fun k hk => by omega
    show Ideal.ofBits .bf16 0xFF80#16 ≤ z
    simp [Ideal.ofBits, Ideal.ieee]
  | succ n ih =>
    have h : n < k0_t1_loop.trips := by rw [trips_eq]; omega
    rw [accAt_succ _ ⟨n, h⟩]
    refine (pay8_le _ _ (fun r c => ent X (256 * b + 16 * n + r) c) (rows_blk X b ⟨n, h⟩) j z).trans ?_
    rw [ih (by omega)]
    constructor
    · rintro ⟨h1, h2⟩ k hk
      rcases Nat.lt_succ_iff_lt_or_eq.1 hk with h | rfl
      · exact h1 k h
      · exact h2
    · exact fun h => ⟨fun k hk => h k (by omega), h n (by omega)⟩

/-- An entry of the running sum: the absolute values at that place of every tile of the blocks so far. -/
theorem totA_apply (X : Vec Ideal S4096x4096 .f32) (n : ℕ) (j : S16x1024.Idx) :
    (totA X n j : EReal) = ∑ i ∈ range (n + 1), ∑ k ∈ range 16, ∑ q ∈ range 4,
      ab (ent X (256 * i + 16 * k + (j 0).val) (1024 * q + (j 1).val)) := by
  induction n with
  | zero => rw [sum_range_one]; exact accAt_fst X 0 16 le_rfl j
  | succ n ih =>
    rw [sum_range_succ, ← ih, ← accAt_fst X (n + 1) 16 le_rfl j]
    rfl

/-- The running maximum is below `z` when those entries are. -/
theorem totB_le (X : Vec Ideal S4096x4096 .f32) (n : ℕ) (j : S16x1024.Idx) (z : EReal) :
    (totB X n j : EReal) ≤ z ↔ ∀ i < n + 1, ∀ k < 16, ∀ q < 4,
      ent X (256 * i + 16 * k + (j 0).val) (1024 * q + (j 1).val) ≤ z := by
  induction n with
  | zero =>
    refine (accAt_snd_le X 0 16 le_rfl j z).trans ⟨fun h i hi => ?_, fun h => h 0 (by omega)⟩
    obtain rfl : i = 0 := by omega
    exact h
  | succ n ih =>
    have e : (totB X (n + 1) j : EReal) = max (totB X n j : EReal) ((accAt (blk X (n + 1)) 16).2 j : EReal) := rfl
    rw [e, max_le_iff, ih, accAt_snd_le X (n + 1) 16 le_rfl j z]
    constructor
    · rintro ⟨h1, h2⟩ i hi
      rcases Nat.lt_succ_iff_lt_or_eq.1 hi with h | rfl
      · exact h1 i h
      · exact h2
    · exact fun h => ⟨fun i hi => h i (by omega), h (n + 1) (by omega)⟩

theorem keepSum_apply (θ : EReal) (L R : ℕ → Vec Ideal S16x2048 .bf16) (n : ℕ) (j : S16x2048.Idx) :
    (keepSum (F := Ideal) θ L R n j : EReal) = ∑ r ∈ range n, (kept θ (L r j) + kept θ (R r j)) := by
  induction n with
  | zero => exact Ideal.ofBits_zero_bf16
  | succ n ih =>
    rw [sum_range_succ, ← ih]
    have z : (z16 : Ideal .bf16) = (0 : EReal) := Ideal.ofBits_zero_bf16
    unfold kept
    rw [← z]
    rfl

theorem hitSum_apply (θ : EReal) (L R : ℕ → Vec Ideal S16x2048 .bf16) (n : ℕ) (j : S16x2048.Idx) :
    (hitSum (F := Ideal) θ L R n j : EReal) = ∑ r ∈ range n, (hit θ (L r j) + hit θ (R r j)) := by
  induction n with
  | zero => exact Ideal.ofBits_zero_bf16
  | succ n ih =>
    rw [sum_range_succ, ← ih]
    have z : (z16 : Ideal .bf16) = (0 : EReal) := Ideal.ofBits_zero_bf16
    have o : (o16 : Ideal .bf16) = (1 : EReal) := Ideal.ofBits_one_bf16
    unfold hit
    rw [← z, ← o]
    rfl

theorem lt_full (X : Vec Ideal S4096x4096 .f32) (k r : ℕ) (j : S16x2048.Idx) :
    (lt (full X) k r j : EReal) = ab (ent X (256 * k + 16 * r + (j 0).val) (2048 * 0 + (j 1).val)) := by
  rw [Nat.mul_zero, zero_add]; rfl

theorem rt_full (X : Vec Ideal S4096x4096 .f32) (k r : ℕ) (j : S16x2048.Idx) :
    (rt (full X) k r j : EReal) = ab (ent X (256 * k + 16 * r + (j 0).val) (2048 * 1 + (j 1).val)) := rfl

/-- An entry of the second pass's sum: what the threshold keeps at that place of every tile. -/
theorem sumAt_apply (θ : EReal) (X : Vec Ideal S4096x4096 .f32) (n : ℕ) (j : S16x2048.Idx) :
    (sumAt (F := Ideal) θ (full X) n j : EReal) = ∑ i ∈ range n, ∑ k ∈ range 16, ∑ q ∈ range 2,
      kept θ (ab (ent X (256 * i + 16 * k + (j 0).val) (2048 * q + (j 1).val))) := by
  induction n with
  | zero => exact Ideal.ofBits_zero_f32
  | succ n ih =>
    rw [sum_range_succ, ← ih]
    refine congrArg (_ + ·) ((keepSum_apply θ _ _ 16 j).trans (sum_congr rfl fun k _ => ?_))
    rw [lt_full, rt_full, sum_range_succ, sum_range_one]

/-- And of its count. -/
theorem cntAt_apply (θ : EReal) (X : Vec Ideal S4096x4096 .f32) (n : ℕ) (j : S16x2048.Idx) :
    (cntAt (F := Ideal) θ (full X) n j : EReal) = ∑ i ∈ range n, ∑ k ∈ range 16, ∑ q ∈ range 2,
      hit θ (ab (ent X (256 * i + 16 * k + (j 0).val) (2048 * q + (j 1).val))) := by
  induction n with
  | zero => exact Ideal.ofBits_zero_f32
  | succ n ih =>
    rw [sum_range_succ, ← ih]
    refine congrArg (_ + ·) ((hitSum_apply θ _ _ 16 j).trans (sum_congr rfl fun k _ => ?_))
    rw [lt_full, rt_full, sum_range_succ, sum_range_one]

end Cert.KernelIdeal.Va
-- ==== Proof.IdealValue.lean ====
/- The kernel's result over the reals, as a formula in the argument's absolute sum, its maximum, and the sum and the count
   of what lies above the threshold. -/
module

public import proofs.«01_k».proof.Proof.IdealEntries

@[expose] public section

set_option maxRecDepth 16384

noncomputable section

namespace Cert.KernelIdeal.Va

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Finset

/-- The sum of `f` over all entries of the argument. -/
def total (f : EReal → EReal) (X : Vec Ideal S4096x4096 .f32) : EReal := ∑ i, f (X i)

/-- The result as a formula: `w` is the kept sum over the count; it stays if it lies outside `[-δ, δ]`. -/
def answer (W C M : EReal) : EReal :=
  let w := Ideal.div W C
  let δ := Ideal.ofBits .f32 0x3D4CCCCD#32 * M
  Scalar.select (Ideal.cmp .olt w (-δ)) w (Scalar.select (Ideal.cmp .ogt w δ) w 0)

/-- The threshold, `0.7` times the mean absolute value. -/
def theta (S : EReal) : EReal := Ideal.ofBits .f32 0x3F333333#32 * Ideal.div S (Ideal.ofBits .f32 0x4B800000#32)

/-- The total by rows and columns. -/
theorem total_eq (f : EReal → EReal) (X : Vec Ideal S4096x4096 .f32) :
    total f X = ∑ r ∈ range 4096, ∑ c ∈ range 4096, f (ent X r c) := by
  unfold total
  rw [ValueIdx.sum_idx2, ← Fin.sum_univ_eq_sum_range (fun r => ∑ c ∈ range 4096, f (ent X r c)) 4096]
  refine sum_congr rfl fun a _ => ?_
  rw [← Fin.sum_univ_eq_sum_range (fun c => f (ent X a.val c)) 4096]
  refine sum_congr rfl fun b _ => ?_
  unfold ent
  rw [show Fin.ofNat 4096 a.val = a from Fin.ext (Nat.mod_eq_of_lt a.isLt), show Fin.ofNat 4096 b.val = b from Fin.ext (Nat.mod_eq_of_lt b.isLt)]

/-- A sum over a 16-row vector whose entries are a function of their coordinates. -/
theorem sum_coords {w : ℕ} (v : (⟨2, ![16, w]⟩ : Shape).Idx → EReal) (g : ℕ → ℕ → EReal) (hv : ∀ j, v j = g (j 0).val (j 1).val) :
    ∑ j, v j = ∑ a ∈ range 16, ∑ b ∈ range w, g a b := by
  rw [ValueIdx.sum_idx2, ← Fin.sum_univ_eq_sum_range (fun a => ∑ b ∈ range w, g a b) 16]
  refine sum_congr rfl fun a _ => ?_
  rw [← Fin.sum_univ_eq_sum_range (fun b => g a.val b) w]
  exact sum_congr rfl fun b _ => hv _

/-- Summing a vector after a shape cast sums the vector. -/
theorem sum_cast {s t : Shape} (v : s.Idx → EReal) (h : s.ShapeCasts t) : ∑ i, shapeCast t v h i = ∑ i, v i :=
  Equiv.sum_comp (Shape.reshapeEquiv h) v

/-- The first accumulator's total is the argument's absolute sum. -/
theorem sum_totA (X : Vec Ideal S4096x4096 .f32) : ∑ j, (totA X 15 j : EReal) = total ab X := by
  rw [total_eq, ← Blocks.sum_tiles 1024 4 (fun r c => ab (ent X r c))]
  exact sum_coords _ (fun a b => ∑ i ∈ range 16, ∑ k ∈ range 16, ∑ q ∈ range 4, ab (ent X (256 * i + 16 * k + a) (1024 * q + b)))
    (totA_apply X 15)

theorem sum_sumAt (θ : EReal) (X : Vec Ideal S4096x4096 .f32) :
    ∑ j, (sumAt (F := Ideal) θ (full X) 16 j : EReal) = total (fun x => kept θ (ab x)) X := by
  rw [total_eq, ← Blocks.sum_tiles 2048 2 (fun r c => kept θ (ab (ent X r c)))]
  exact sum_coords _ (fun a b => ∑ i ∈ range 16, ∑ k ∈ range 16, ∑ q ∈ range 2, kept θ (ab (ent X (256 * i + 16 * k + a) (2048 * q + b))))
    (sumAt_apply θ X 16)

theorem sum_cntAt (θ : EReal) (X : Vec Ideal S4096x4096 .f32) :
    ∑ j, (cntAt (F := Ideal) θ (full X) 16 j : EReal) = total (fun x => hit θ (ab x)) X := by
  rw [total_eq, ← Blocks.sum_tiles 2048 2 (fun r c => hit θ (ab (ent X r c)))]
  exact sum_coords _ (fun a b => ∑ i ∈ range 16, ∑ k ∈ range 16, ∑ q ∈ range 2, hit θ (ab (ent X (256 * i + 16 * k + a) (2048 * q + b))))
    (cntAt_apply θ X 16)

theorem one_size : ∀ b, S1.size b = 1 := by decide

theorem pay71_eq (A : Vec Ideal S16x1024 .f32) :
    (k0_pay71 A : EReal) = Ideal.div (Ideal.ofBits .f32 0x3F333333#32 * ∑ j, (A j : EReal)) (Ideal.ofBits .f32 0x4B800000#32) := by
  refine congrArg (fun s => Ideal.div (Ideal.ofBits .f32 0x3F333333#32 * s) (Ideal.ofBits .f32 0x4B800000#32)) ?_
  exact (Ideal.multiReduction_add_total _ 0x00000000#32 _ one_size (.inl rfl) rfl _).trans (sum_cast A _)

theorem pay75_eq (A : Vec Ideal S16x2048 .f32) : (k0_pay75 A : EReal) = ∑ j, (A j : EReal) :=
  (Ideal.multiReduction_add_total _ 0x00000000#32 _ one_size (.inl rfl) rfl _).trans (sum_cast A _)

theorem pay76_eq (A : Vec Ideal S16x2048 .f32) (p) : (k0_pay76 A p : EReal) = ∑ j, (A j : EReal) :=
  (Ideal.multiReduction_add_total _ 0x00000000#32 _ one_size (.inl rfl) rfl _).trans (sum_cast A _)

/-- A fold of maxima from the bottom is below `z` when every member is. -/
theorem fold_le {ι : Type*} (s : Finset ι) (f : ι → EReal) (b : EReal) (hb : b = ⊥) (z : EReal) :
    s.fold max b f ≤ z ↔ ∀ i ∈ s, f i ≤ z := by
  rw [Finset.fold_max_le, hb]
  exact and_iff_right bot_le

theorem bot_word : Ideal.ofBits .f32 0xFF800000#32 = ⊥ := by simp [Ideal.ofBits, Ideal.ieee]

theorem idx1 (i j : S1.Idx) : i = j := funext fun b => Fin.ext (by have := (i b).isLt; have := (j b).isLt; have := one_size b; omega)

theorem max_total {s : Shape} {axes : List (Fin s.rank)} (src : FVec Ideal s .f32) (acc : BitVec 32) (h : s.Reduces axes S1)
    (hφ : FKind.Formats .f32) (hacc : acc = FKind.maximumf.neutral .f32 hφ) (hb : Ideal.ofBits .f32 acc = ⊥) (j : S1.Idx) (z : EReal) :
    (multiReduction .maximumf axes S1 src acc h hφ hacc j : EReal) ≤ z ↔ ∀ i, (src i : EReal) ≤ z := by
  rw [multiReduction_maximumf_eq_fold]
  exact (fold_le _ _ _ hb z).trans ⟨fun h i => h i (Finset.mem_filter.2 ⟨Finset.mem_univ _, idx1 _ _⟩), fun h i _ => h i⟩

theorem le_cast {s t : Shape} (v : s.Idx → EReal) (h : s.ShapeCasts t) (z : EReal) : (∀ i, shapeCast t v h i ≤ z) ↔ ∀ i, v i ≤ z :=
  (Shape.reshapeEquiv h).forall_congr_left.trans (by simp [shapeCast])

theorem pay70_le (B : Vec Ideal S16x1024 .f32) (z : EReal) : (k0_pay70 B : EReal) ≤ z ↔ ∀ j, (B j : EReal) ≤ z :=
  (max_total _ 0xFF800000#32 _ (.inl rfl) rfl bot_word _ z).trans (le_cast B _ z)

/-- The kernel's maximum is the argument's. -/
theorem pay70_totB (X : Vec Ideal S4096x4096 .f32) (z : EReal) : (k0_pay70 (totB X 15) : EReal) ≤ z ↔ ∀ i, (X i : EReal) ≤ z := by
  rw [pay70_le]
  have h2 : (∀ i, (X i : EReal) ≤ z) ↔ ∀ r < 4096, ∀ c < 4096, ent X r c ≤ z := by
    constructor
    · exact fun h r _ c _ => h _
    · intro h i
      have := h (i 0).val (i 0).isLt (i 1).val (i 1).isLt
      refine le_of_eq_of_le (congrArg X (funext fun a => Fin.ext ?_)) this
      fin_cases a
      · exact (Nat.mod_eq_of_lt (i 0).isLt).symm
      · exact (Nat.mod_eq_of_lt (i 1).isLt).symm
  rw [h2, ← Blocks.forall_tiles (fun r c => ent X r c ≤ z)]
  constructor
  · intro h a ha b hb
    exact (totB_le X 15 (ValueIdx.ix2 ⟨a, ha⟩ ⟨b, hb⟩) z).1 (h _)
  · intro h j
    exact (totB_le X 15 j z).2 (h (j 0).val (j 0).isLt (j 1).val (j 1).isLt)

/-- `0.7 S / n` is `0.7 (S / n)`: in the extended reals too. -/
theorem theta_eq (S : EReal) :
    Ideal.div (Ideal.ofBits .f32 0x3F333333#32 * S) (Ideal.ofBits .f32 0x4B800000#32) = theta S := by
  have h : (Ideal.ofBits .f32 0x4B800000#32 : EReal) ≠ 0 := by
    simp [Ideal.ofBits, Ideal.ieee]
  unfold theta Ideal.div
  rw [if_neg h, if_neg h, mul_assoc]

/-- The last step: the band test on the mean. -/
theorem pay14_eq (M W : EReal) (v : FVec Ideal S1x1x1 .f32) (C : EReal) (hC : ∀ p, (v p : EReal) = C) :
    (k0_pay14 (F := Ideal) M W v : EReal) = answer W C M := by
  have e : (k0_pay14 (F := Ideal) M W v : EReal) = Scalar.select
      (Ideal.cmp .olt (Ideal.div W (v (fun a => ⟨![0, 0, 0] a, inpos_S1x1x1_p0_0_0 a⟩)))
        (Ideal.ofBits .f32 0x00000000#32 - Ideal.ofBits .f32 0x3D4CCCCD#32 * M))
      (Ideal.div W (v (fun a => ⟨![0, 0, 0] a, inpos_S1x1x1_p0_0_0 a⟩)))
      (Scalar.select (Ideal.cmp .ogt (Ideal.div W (v (fun a => ⟨![0, 0, 0] a, inpos_S1x1x1_p0_0_0 a⟩))) (Ideal.ofBits .f32 0x3D4CCCCD#32 * M))
        (Ideal.div W (v (fun a => ⟨![0, 0, 0] a, inpos_S1x1x1_p0_0_0 a⟩))) (Ideal.ofBits .f32 0x00000000#32)) := rfl
  rw [e, hC, Ideal.ofBits_zero_f32]
  have hz : ∀ d : EReal, (0 : EReal) - d = -d := fun d => zero_sub d
  exact congrArg (fun d => Scalar.select (Ideal.cmp .olt (Ideal.div W C) d) (Ideal.div W C)
    (Scalar.select (Ideal.cmp .ogt (Ideal.div W C) (Ideal.ofBits .f32 0x3D4CCCCD#32 * M)) (Ideal.div W C) (0 : EReal))) (hz _)

/-- The kernel's result on `X`. -/
theorem result_eq (X : Vec Ideal S4096x4096 .f32) :
    (result X : EReal) = answer (total (fun x => kept (theta (total ab X)) (ab x)) X)
      (total (fun x => hit (theta (total ab X)) (ab x)) X) (k0_pay70 (totB X 15)) := by
  have hθ : (k0_pay71 (totA X 15) : EReal) = theta (total ab X) := by rw [pay71_eq, sum_totA, theta_eq]
  unfold result fin
  rw [pay14_eq _ _ _ _ (pay76_eq _), pay75_eq, hθ, sum_sumAt, sum_cntAt]

end Cert.KernelIdeal.Va
-- ==== Proof.RefValue.lean ====
/- The reference's result over the reals, by the same formula. -/
module

public import proofs.«01_k».proof.Proof.IdealValue
public import proofs.«01_k».proof.Proof.Gen.ReferenceIdeal.Run

@[expose] public section

set_option maxRecDepth 16384

noncomputable section

namespace Cert.ReferenceIdeal.Va

open Cert.ReferenceIdeal Cert.ReferenceIdeal.Gen
open Idealize.ShloMosaic Idealize.ShloMosaic.TcCoe
open Cert.KernelIdeal.Va (total answer theta ab kept hit fold_le bot_word)

variable (X : FVec Ideal S4096x4096 .f32)

/-- The host's sum of an array to a scalar. -/
theorem sum_eq (v : FVec Ideal S4096x4096 .f32) (j : S_.Idx) :
    (Host.reduceAdd v (constant S_ .f32 0x00000000#32) reducesTo_S4096x4096_S_d0_1 h_S_ j : EReal) = ∑ i, (v i : EReal) := by
  refine (Ideal.hostReduceAdd_total reducesTo_S4096x4096_S_d0_1 (fun b => b.elim0) v (Ideal.ofBits .f32 0x00000000#32) j).trans ?_
  rw [Ideal.ofBits_zero_f32, zero_add]

/-- The absolute values. -/
abbrev absx : FVec Ideal S4096x4096 .f32 := Host.absf X
/-- The threshold. -/
abbrev thr : FVec Ideal S_ .f32 :=
  mulf (constant S_ .f32 0x3F333333#32) (Host.divf (Host.reduceAdd (absx X) (constant S_ .f32 0x00000000#32) reducesTo_S4096x4096_S_d0_1 h_S_) (constant S_ .f32 0x4B800000#32))
/-- Which entries lie above it. -/
abbrev mask : IVec S4096x4096 1 := cmpf .ogt (absx X) (broadcastInDim S4096x4096 ![] bcast_S_S4096x4096 (thr X))
/-- Their sum. -/
abbrev wsum : FVec Ideal S_ .f32 :=
  Host.reduceAdd (select (mask X) (absx X) (broadcastInDim S4096x4096 ![] bcast_S_S4096x4096 (id (constant S_ .f32 0x00000000#32)))) (constant S_ .f32 0x00000000#32) reducesTo_S4096x4096_S_d0_1 h_S_
/-- Their number. -/
abbrev cnt : FVec Ideal S_ .f32 :=
  Host.reduceAdd (uitofp .f32 (mask X)) (constant S_ .f32 0x00000000#32) reducesTo_S4096x4096_S_d0_1 h_S_
/-- Their mean. -/
abbrev mean : FVec Ideal S_ .f32 := Host.divf (wsum X) (cnt X)
/-- The largest entry. -/
abbrev top : FVec Ideal S_ .f32 := Host.reduce FloatOps.maximumf X (constant S_ .f32 0xFF800000#32) reducesTo_S4096x4096_S_d0_1 h_S_
/-- The host's maximum of an array is below `z` when every entry is. -/
theorem max_le_iff_all (v : FVec Ideal S4096x4096 .f32) (j : S_.Idx) (z : EReal) :
    (top v j : EReal) ≤ z
      ↔ ∀ i, (v i : EReal) ≤ z := by
  unfold top
  rw [Host.reduce_eq_fold]
  exact (fold_le _ _ _ bot_word z).trans
    ⟨fun h i => h i (Finset.mem_filter.2 ⟨Finset.mem_univ _, funext fun b => b.elim0⟩), fun h i _ => h i⟩

/-- The band's half width. -/
abbrev band : FVec Ideal S_ .f32 := mulf (constant S_ .f32 0x3D4CCCCD#32) (top X)
/-- The reference's result. -/
abbrev res : FVec Ideal S_ .f32 :=
  select (cmpf .olt (mean X) (Host.negf (band X))) (mean X) (select (cmpf .ogt (mean X) (band X)) (mean X) (constant S_ .f32 0x00000000#32))

theorem thr_eq (j : S_.Idx) : (thr X j : EReal) = theta (total ab X) :=
  congrArg theta (sum_eq (absx X) j)

theorem bit_eq (b : BitVec 1) : ((b.toNat : ℝ) : EReal) = Scalar.select b (1 : EReal) 0 := by
  by_cases h : b = 1#1
  · subst h; simp [Scalar.select]
  · obtain rfl := ValueIdx.eq_zero_of_ne_one h
    simp [Scalar.select]

theorem mask_eq (i : S4096x4096.Idx) : mask X i = Ideal.cmp .ogt (ab (X i)) (theta (total ab X)) :=
  congrArg (Ideal.cmp .ogt (ab (X i))) (thr_eq X _)

theorem wsum_eq (j : S_.Idx) : (wsum X j : EReal) = total (fun x => kept (theta (total ab X)) (ab x)) X := by
  refine (sum_eq _ j).trans (Finset.sum_congr rfl fun i _ => ?_)
  show (Scalar.select (mask X i) (ab (X i)) (Ideal.ofBits .f32 0x00000000#32) : EReal) = _
  rw [mask_eq, Ideal.ofBits_zero_f32]
  rfl

theorem cnt_eq (j : S_.Idx) : (cnt X j : EReal) = total (fun x => hit (theta (total ab X)) (ab x)) X := by
  refine (sum_eq _ j).trans (Finset.sum_congr rfl fun i _ => ?_)
  show (((mask X i).toNat : ℝ) : EReal) = _
  rw [mask_eq, bit_eq]
  rfl

/-- The two selections at their one index. -/
theorem band_test (w d z : FVec Ideal S_ .f32) (j : S_.Idx) :
    (select (cmpf .olt w (Host.negf d)) w (select (cmpf .ogt w d) w z) j : EReal)
      = Scalar.select (Ideal.cmp .olt (w j) (-(d j : EReal))) (w j : EReal) (Scalar.select (Ideal.cmp .ogt (w j) (d j)) (w j : EReal) (z j : EReal)) := rfl

theorem div_at (a b : FVec Ideal S_ .f32) (j : S_.Idx) : (Host.divf a b j : EReal) = Ideal.div (a j) (b j) := rfl

theorem mul_at (c : BitVec 32) (b : FVec Ideal S_ .f32) (j : S_.Idx) :
    (mulf (constant S_ .f32 c) b j : EReal) = Ideal.ofBits .f32 c * (b j : EReal) := rfl

theorem mean_eq (j : S_.Idx) : (mean X j : EReal) = Ideal.div (wsum X j) (cnt X j) := div_at (wsum X) (cnt X) j

theorem band_eq (j : S_.Idx) : (band X j : EReal) = Ideal.ofBits .f32 0x3D4CCCCD#32 * (top X j : EReal) := mul_at _ (top X) j

theorem zero_eq (j : S_.Idx) : (constant (F := Ideal) S_ .f32 0x00000000#32 j : EReal) = 0 := Ideal.ofBits_zero_f32

/-- The reference's result as the formula. -/
theorem res_eq (j : S_.Idx) : (res X j : EReal) = answer (total (fun x => kept (theta (total ab X)) (ab x)) X)
    (total (fun x => hit (theta (total ab X)) (ab x)) X) (top X j) := by
  rw [← wsum_eq X j, ← cnt_eq X j]
  refine (band_test (mean X) (band X) _ j).trans ?_
  rw [mean_eq, band_eq, zero_eq]
  unfold answer
  exact rfl

/-- The kernel's result is the reference's, on every argument. -/
theorem equation (j : S_.Idx) : (Cert.KernelIdeal.Va.result (F := Ideal) X : EReal) = res X j := by
  have hm : (Cert.KernelIdeal.Gen.k0_pay70 (F := Ideal) (Cert.KernelIdeal.Va.totB (F := Ideal) X 15) : EReal) = top X j :=
    eq_of_forall_ge_iff (α := EReal) (a := Cert.KernelIdeal.Gen.k0_pay70 (F := Ideal) (Cert.KernelIdeal.Va.totB (F := Ideal) X 15)) (b := top X j) fun z => (Cert.KernelIdeal.Va.pay70_totB X z).trans (max_le_iff_all X j z).symm
  rw [Cert.KernelIdeal.Va.result_eq, res_eq, hm]

theorem res_main (m : (ℓ : Loc nD τ sig) → Buf (Elt Ideal) ℓ) (c : Dev nD) :
    Value.res_main_v17 (F := Ideal) m c = res (m ((c.tc : Thread nD τ).loc main_arg0)) := rfl

end Cert.ReferenceIdeal.Va
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

public import proofs.«01_k».proof.Proof.KernelFrame
public import proofs.«01_k».proof.Proof.IdealLaunch
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the reference ends, with its argument unchanged. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals the kernel and the reference end with one result, on every argument. -/
theorem value : Cert.algebraic_KernelIdeal_ReferenceIdeal (hKernelIdeal := Cert.KernelIdeal.Gen.facts)
    (hReferenceIdeal := Cert.ReferenceIdeal.Gen.facts) := fun m g m' g' _ hm =>
  ⟨fun c _ => Cert.KernelIdeal.Va.result (F := Ideal) (Cert.KernelIdeal.Va.arg m c),
    (θ_run Cert.KernelIdeal.defs _ _).mono (fun _ h => h.1) (Cert.KernelIdeal.Va.run (F := Ideal) m g),
    (θ_run Cert.ReferenceIdeal.defs _ _).mono (fun r h c => ⟨(h c).1.trans (by
      rw [Cert.ReferenceIdeal.Va.res_main, hm c]
      exact funext fun j => (Cert.ReferenceIdeal.Va.equation (Cert.KernelIdeal.Va.arg m c) j).symm), (h c).2⟩)
      (Cert.ReferenceIdeal.Value.run (F := Ideal) m' g')⟩

theorem claim : Cert.Claim := ⟨Cert.Kernel.Gen.facts, Cert.KernelIdeal.Gen.facts, Cert.ReferenceIdeal.Gen.facts,
  fun m g _ => Cert.Kernel.Fr.quiescent (F := Bits) m g,
  fun m g _ => (θ_run Cert.KernelIdeal.defs _ _).mono (fun _ h => ⟨fun c => (h.1 c).2, h.2⟩) (Cert.KernelIdeal.Va.run (F := Ideal) m g),
  reference_frame, trivial, value⟩

end Cert.Proof

end
